-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 65536]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S3x256x512 : Shape := ⟨3, ![3, 256, 512]⟩
abbrev S256x512 : Shape := ⟨2, ![256, 512]⟩
abbrev S256x256 : Shape := ⟨2, ![256, 256]⟩
abbrev S3 : Shape := ⟨1, ![3]⟩
abbrev S4 : Shape := ⟨1, ![4]⟩
abbrev S_ : Shape := ⟨0, ![]⟩
abbrev S256x4096 : Shape := ⟨2, ![256, 4096]⟩
abbrev S256x1024 : Shape := ⟨2, ![256, 1024]⟩
abbrev S1 : Shape := ⟨1, ![1]⟩
abbrev S1x256x512 : Shape := ⟨3, ![1, 256, 512]⟩

abbrev nBuf : Space → Nat
  | .hbm => 3
  | .vmem => 12
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x1024, .f32⟩
  | .local _ .vmem, ⟨3, _⟩ => ⟨S1024x1024, .bf16⟩
  | .local _ .vmem, ⟨4, _⟩ => ⟨S3x256x512, .bf16⟩
  | .local _ .vmem, ⟨5, _⟩ => ⟨S3x256x512, .bf16⟩
  | .local _ .vmem, ⟨6, _⟩ => ⟨S256x512, .bf16⟩
  | .local _ .vmem, ⟨7, _⟩ => ⟨S256x256, .bf16⟩
  | .local _ .vmem, ⟨8, _⟩ => ⟨S256x256, .bf16⟩
  | .local _ .vmem, ⟨9, _⟩ => ⟨S256x512, .bf16⟩
  | .local _ .vmem, ⟨10, _⟩ => ⟨S3x256x512, .bf16⟩
  | .local _ .vmem, ⟨11, _⟩ => ⟨S3x256x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v51 : BitVec 32 := Scalar.muli v24 c1_i32_21
  let v52 : BitVec 32 := Scalar.addi c0_i32_22 v51
  v52.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_24 : BitVec 32 := 1#32
  let v53 : BitVec 32 := Scalar.muli v28 c1_i32_24
  let v54 : BitVec 32 := Scalar.addi c0_i32_25 v53
  v54.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.xori v2 c4_i32_11
  let c1_i32_27 : BitVec 32 := 1#32
  let v55 : BitVec 32 := Scalar.muli v29 c1_i32_27
  let v56 : BitVec 32 := Scalar.addi c0_i32_28 v55
  v56.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v30 : BitVec 32 := Scalar.xori v2 c8_i32
  let c1_i32_30 : BitVec 32 := 1#32
  let v57 : BitVec 32 := Scalar.muli v30 c1_i32_30
  let v58 : BitVec 32 := Scalar.addi c0_i32_31 v57
  v58.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32 : BitVec 32 := 256#32
  let v59 : BitVec 32 := Scalar.muli v20 c256_i32
  let v60 : Index := Scalar.indexCast v59
  let c0 : Index := 0#32
  ![v60.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_35 : BitVec 32 := 256#32
  let v67 : BitVec 32 := Scalar.muli v20 c256_i32_35
  let v68 : Index := Scalar.indexCast v67
  let c0_36 : Index := 0#32
  ![v68.toNat, 0]
def k0_off3 (d0 : Dev nD) (c2_i32_37 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v72 : BitVec 32 := Scalar.addi v20 c2_i32_37
  let c4_i32_38 : BitVec 32 := 4#32
  let v73 : BitVec 32 := Scalar.remsi v72 c4_i32_38
  let c256_i32_39 : BitVec 32 := 256#32
  let v74 : BitVec 32 := Scalar.muli v73 c256_i32_39
  let v75 : Index := Scalar.indexCast v74
  let c0_40 : Index := 0#32
  ![v75.toNat, 0]
def k0_off4 (d0 : Dev nD) (c2_i32_37 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v72 : BitVec 32 := Scalar.addi v20 c2_i32_37
  let c4_i32_38 : BitVec 32 := 4#32
  let v73 : BitVec 32 := Scalar.remsi v72 c4_i32_38
  let c256_i32_44 : BitVec 32 := 256#32
  let v82 : BitVec 32 := Scalar.muli v73 c256_i32_44
  let v83 : Index := Scalar.indexCast v82
  let c0_45 : Index := 0#32
  ![v83.toNat, 0]
def k0_off5 (d0 : Dev nD) (c0_i32_46 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v87 : BitVec 32 := Scalar.subi v20 c0_i32_46
  let c8_i32_47 : BitVec 32 := 8#32
  let v88 : BitVec 32 := Scalar.addi v87 c8_i32_47
  let c4_i32_48 : BitVec 32 := 4#32
  let v89 : BitVec 32 := Scalar.remsi v88 c4_i32_48
  let c256_i32_51 : BitVec 32 := 256#32
  let v92 : BitVec 32 := Scalar.muli v89 c256_i32_51
  let c0_i32_62 : BitVec 32 := 0#32
  ![v92.toNat, 0]
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_58 : BitVec 32 := 1#32
  let v96 : BitVec 32 := Scalar.muli v24 c1_i32_58
  let v97 : BitVec 32 := Scalar.addi c0_i32_59 v96
  v97.toNat
def k0_off6 (d0 : Dev nD) (c0_i32_49 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v90 : BitVec 32 := Scalar.addi v20 c0_i32_49
  let c4_i32_50 : BitVec 32 := 4#32
  let v91 : BitVec 32 := Scalar.remsi v90 c4_i32_50
  let c2_i32_52 : BitVec 32 := 2#32
  let v93 : BitVec 32 := Scalar.addi v91 c2_i32_52
  let c4_i32_53 : BitVec 32 := 4#32
  let v94 : BitVec 32 := Scalar.remsi v93 c4_i32_53
  let c256_i32_54 : BitVec 32 := 256#32
  let v95 : BitVec 32 := Scalar.muli v94 c256_i32_54
  let c512_i32 : BitVec 32 := 512#32
  ![v95.toNat, 512]
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_66 : BitVec 32 := 1#32
  let v105 : BitVec 32 := Scalar.muli v28 c1_i32_66
  let v106 : BitVec 32 := Scalar.addi c0_i32_67 v105
  v106.toNat
def k0_off7 (d0 : Dev nD) (c0_i32_88 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v144 : BitVec 32 := Scalar.subi v20 c0_i32_88
  let c1_i32_89 : BitVec 32 := 1#32
  let v145 : BitVec 32 := Scalar.subi v144 c1_i32_89
  let c8_i32_90 : BitVec 32 := 8#32
  let v146 : BitVec 32 := Scalar.addi v145 c8_i32_90
  let c4_i32_91 : BitVec 32 := 4#32
  let v147 : BitVec 32 := Scalar.remsi v146 c4_i32_91
  let c256_i32_111 : BitVec 32 := 256#32
  let v165 : BitVec 32 := Scalar.muli v147 c256_i32_111
  let v166 : Index := Scalar.indexCast v165
  let c0_112 : Index := 0#32
  ![v166.toNat, 0]
def k0_off8 (d0 : Dev nD) (c0_i32_92 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v148 : BitVec 32 := Scalar.addi v20 c0_i32_92
  let c1_i32_93 : BitVec 32 := 1#32
  let v149 : BitVec 32 := Scalar.addi v148 c1_i32_93
  let c4_i32_94 : BitVec 32 := 4#32
  let v150 : BitVec 32 := Scalar.remsi v149 c4_i32_94
  let c2_i32_118 : BitVec 32 := 2#32
  let v176 : BitVec 32 := Scalar.addi v150 c2_i32_118
  let c4_i32_119 : BitVec 32 := 4#32
  let v177 : BitVec 32 := Scalar.remsi v176 c4_i32_119
  let c256_i32_120 : BitVec 32 := 256#32
  let v178 : BitVec 32 := Scalar.muli v177 c256_i32_120
  let v179 : Index := Scalar.indexCast v178
  let c512 : Index := 512#32
  ![v179.toNat, 512]
def k0_dev7 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_138 : BitVec 32 := 1#32
  let v198 : BitVec 32 := Scalar.muli v24 c1_i32_138
  let v199 : BitVec 32 := Scalar.addi c0_i32_139 v198
  v199.toNat
def k0_dev8 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_146 : BitVec 32 := 1#32
  let v207 : BitVec 32 := Scalar.muli v28 c1_i32_146
  let v208 : BitVec 32 := Scalar.addi c0_i32_147 v207
  v208.toNat
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_201 : BitVec 32 := 1#32
  let v270 : BitVec 32 := Scalar.muli v24 c1_i32_201
  let v271 : BitVec 32 := Scalar.addi c0_i32_202 v270
  v271.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_209 : BitVec 32 := 1#32
  let v279 : BitVec 32 := Scalar.muli v28 c1_i32_209
  let v280 : BitVec 32 := Scalar.addi c0_i32_210 v279
  v280.toNat
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c1_i32_256 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let v337 : BitVec 32 := Scalar.subi c1_i32_256 v31
  let c512_i32_257 : BitVec 32 := 512#32
  let v338 : BitVec 32 := Scalar.muli v337 c512_i32_257
  ![v335.toNat, v338.toNat]
def k0_dev11 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.xori v2 c4_i32_11
  let c1_i32_263 : BitVec 32 := 1#32
  let v344 : BitVec 32 := Scalar.muli v29 c1_i32_263
  let v345 : BitVec 32 := Scalar.addi c0_i32_264 v344
  v345.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let v356 : Index := Scalar.indexCast v335
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  let v357 : Index := Scalar.indexCast v336
  ![v356.toNat, v357.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  let c1_i32_259 : BitVec 32 := 1#32
  let c0_i32_13 : BitVec 32 := 0#32
  let v33 : BitVec 1 := Scalar.cmpi .sgt v19 c0_i32_13
  let v34 : BitVec 32 := Scalar.extui v33
  let c0_i32_14 : BitVec 32 := 0#32
  let v35 : BitVec 1 := Scalar.cmpi .slt v19 c0_i32_14
  let v36 : BitVec 32 := Scalar.extui v35
  let v37 : BitVec 32 := Scalar.subi v34 v36
  let c2_i32_12 : BitVec 32 := 2#32
  let c0_i32_15 : BitVec 32 := 0#32
  let v38 : BitVec 1 := Scalar.cmpi .sgt c2_i32_12 c0_i32_15
  let v39 : BitVec 32 := Scalar.extui v38
  let c0_i32_16 : BitVec 32 := 0#32
  let v40 : BitVec 1 := Scalar.cmpi .slt c2_i32_12 c0_i32_16
  let v41 : BitVec 32 := Scalar.extui v40
  let v42 : BitVec 32 := Scalar.subi v39 v41
  let v43 : BitVec 1 := Scalar.cmpi .ne v37 v42
  let v44 : BitVec 32 := Scalar.remsi v19 c2_i32_12
  let c0_i32_17 : BitVec 32 := 0#32
  let v45 : BitVec 1 := Scalar.cmpi .ne v44 c0_i32_17
  let v46 : BitVec 1 := Scalar.andi v43 v45
  let v32 : BitVec 32 := Scalar.divsi v19 c2_i32_12
  let c1_i32_18 : BitVec 32 := 1#32
  let v47 : BitVec 32 := Scalar.subi v32 c1_i32_18
  let v48 : BitVec 32 := Scalar.select v46 v47 v32
  let c2_i32_19 : BitVec 32 := 2#32
  let v49 : BitVec 32 := Scalar.remsi v48 c2_i32_19
  let v341 : BitVec 32 := Scalar.subi c1_i32_259 v49
  let c256_i32_260 : BitVec 32 := 256#32
  let v342 : BitVec 32 := Scalar.muli v341 c256_i32_260
  let v343 : BitVec 32 := Scalar.addi v336 v342
  ![v335.toNat, v343.toNat]
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v30 : BitVec 32 := Scalar.xori v2 c8_i32
  let c1_i32_273 : BitVec 32 := 1#32
  let v366 : BitVec 32 := Scalar.muli v30 c1_i32_273
  let v367 : BitVec 32 := Scalar.addi c0_i32_274 v366
  v367.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let v378 : Index := Scalar.indexCast v335
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  let c0_i32_13 : BitVec 32 := 0#32
  let v33 : BitVec 1 := Scalar.cmpi .sgt v19 c0_i32_13
  let v34 : BitVec 32 := Scalar.extui v33
  let c0_i32_14 : BitVec 32 := 0#32
  let v35 : BitVec 1 := Scalar.cmpi .slt v19 c0_i32_14
  let v36 : BitVec 32 := Scalar.extui v35
  let v37 : BitVec 32 := Scalar.subi v34 v36
  let c2_i32_12 : BitVec 32 := 2#32
  let c0_i32_15 : BitVec 32 := 0#32
  let v38 : BitVec 1 := Scalar.cmpi .sgt c2_i32_12 c0_i32_15
  let v39 : BitVec 32 := Scalar.extui v38
  let c0_i32_16 : BitVec 32 := 0#32
  let v40 : BitVec 1 := Scalar.cmpi .slt c2_i32_12 c0_i32_16
  let v41 : BitVec 32 := Scalar.extui v40
  let v42 : BitVec 32 := Scalar.subi v39 v41
  let v43 : BitVec 1 := Scalar.cmpi .ne v37 v42
  let v44 : BitVec 32 := Scalar.remsi v19 c2_i32_12
  let c0_i32_17 : BitVec 32 := 0#32
  let v45 : BitVec 1 := Scalar.cmpi .ne v44 c0_i32_17
  let v46 : BitVec 1 := Scalar.andi v43 v45
  let v32 : BitVec 32 := Scalar.divsi v19 c2_i32_12
  let c1_i32_18 : BitVec 32 := 1#32
  let v47 : BitVec 32 := Scalar.subi v32 c1_i32_18
  let v48 : BitVec 32 := Scalar.select v46 v47 v32
  let c2_i32_19 : BitVec 32 := 2#32
  let v49 : BitVec 32 := Scalar.remsi v48 c2_i32_19
  let c256_i32_258 : BitVec 32 := 256#32
  let v339 : BitVec 32 := Scalar.muli v49 c256_i32_258
  let v340 : BitVec 32 := Scalar.addi v336 v339
  let v379 : Index := Scalar.indexCast v340
  ![v378.toNat, v379.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  let c0_i32_13 : BitVec 32 := 0#32
  let v33 : BitVec 1 := Scalar.cmpi .sgt v19 c0_i32_13
  let v34 : BitVec 32 := Scalar.extui v33
  let c0_i32_14 : BitVec 32 := 0#32
  let v35 : BitVec 1 := Scalar.cmpi .slt v19 c0_i32_14
  let v36 : BitVec 32 := Scalar.extui v35
  let v37 : BitVec 32 := Scalar.subi v34 v36
  let c2_i32_12 : BitVec 32 := 2#32
  let c0_i32_15 : BitVec 32 := 0#32
  let v38 : BitVec 1 := Scalar.cmpi .sgt c2_i32_12 c0_i32_15
  let v39 : BitVec 32 := Scalar.extui v38
  let c0_i32_16 : BitVec 32 := 0#32
  let v40 : BitVec 1 := Scalar.cmpi .slt c2_i32_12 c0_i32_16
  let v41 : BitVec 32 := Scalar.extui v40
  let v42 : BitVec 32 := Scalar.subi v39 v41
  let v43 : BitVec 1 := Scalar.cmpi .ne v37 v42
  let v44 : BitVec 32 := Scalar.remsi v19 c2_i32_12
  let c0_i32_17 : BitVec 32 := 0#32
  let v45 : BitVec 1 := Scalar.cmpi .ne v44 c0_i32_17
  let v46 : BitVec 1 := Scalar.andi v43 v45
  let v32 : BitVec 32 := Scalar.divsi v19 c2_i32_12
  let c1_i32_18 : BitVec 32 := 1#32
  let v47 : BitVec 32 := Scalar.subi v32 c1_i32_18
  let v48 : BitVec 32 := Scalar.select v46 v47 v32
  let c2_i32_19 : BitVec 32 := 2#32
  let v49 : BitVec 32 := Scalar.remsi v48 c2_i32_19
  let c256_i32_258 : BitVec 32 := 256#32
  let v339 : BitVec 32 := Scalar.muli v49 c256_i32_258
  let v340 : BitVec 32 := Scalar.addi v336 v339
  ![v335.toNat, v340.toNat]
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v30 : BitVec 32 := Scalar.xori v2 c8_i32
  let c1_i32_283 : BitVec 32 := 1#32
  let v388 : BitVec 32 := Scalar.muli v30 c1_i32_283
  let v389 : BitVec 32 := Scalar.addi c0_i32_284 v388
  v389.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let v401 : Index := Scalar.indexCast v335
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  let c1_i32_259 : BitVec 32 := 1#32
  let c0_i32_13 : BitVec 32 := 0#32
  let v33 : BitVec 1 := Scalar.cmpi .sgt v19 c0_i32_13
  let v34 : BitVec 32 := Scalar.extui v33
  let c0_i32_14 : BitVec 32 := 0#32
  let v35 : BitVec 1 := Scalar.cmpi .slt v19 c0_i32_14
  let v36 : BitVec 32 := Scalar.extui v35
  let v37 : BitVec 32 := Scalar.subi v34 v36
  let c2_i32_12 : BitVec 32 := 2#32
  let c0_i32_15 : BitVec 32 := 0#32
  let v38 : BitVec 1 := Scalar.cmpi .sgt c2_i32_12 c0_i32_15
  let v39 : BitVec 32 := Scalar.extui v38
  let c0_i32_16 : BitVec 32 := 0#32
  let v40 : BitVec 1 := Scalar.cmpi .slt c2_i32_12 c0_i32_16
  let v41 : BitVec 32 := Scalar.extui v40
  let v42 : BitVec 32 := Scalar.subi v39 v41
  let v43 : BitVec 1 := Scalar.cmpi .ne v37 v42
  let v44 : BitVec 32 := Scalar.remsi v19 c2_i32_12
  let c0_i32_17 : BitVec 32 := 0#32
  let v45 : BitVec 1 := Scalar.cmpi .ne v44 c0_i32_17
  let v46 : BitVec 1 := Scalar.andi v43 v45
  let v32 : BitVec 32 := Scalar.divsi v19 c2_i32_12
  let c1_i32_18 : BitVec 32 := 1#32
  let v47 : BitVec 32 := Scalar.subi v32 c1_i32_18
  let v48 : BitVec 32 := Scalar.select v46 v47 v32
  let c2_i32_19 : BitVec 32 := 2#32
  let v49 : BitVec 32 := Scalar.remsi v48 c2_i32_19
  let v341 : BitVec 32 := Scalar.subi c1_i32_259 v49
  let c256_i32_260 : BitVec 32 := 256#32
  let v342 : BitVec 32 := Scalar.muli v341 c256_i32_260
  let v343 : BitVec 32 := Scalar.addi v336 v342
  let v402 : Index := Scalar.indexCast v343
  ![v401.toNat, v402.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let c512_i32_255 : BitVec 32 := 512#32
  let v336 : BitVec 32 := Scalar.muli v31 c512_i32_255
  ![v335.toNat, v336.toNat]
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.xori v2 c4_i32_11
  let c1_i32_293 : BitVec 32 := 1#32
  let v406 : BitVec 32 := Scalar.muli v29 c1_i32_293
  let v407 : BitVec 32 := Scalar.addi c0_i32_294 v406
  v407.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let v419 : Index := Scalar.indexCast v335
  let c1_i32_256 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v31 : BitVec 32 := Scalar.remsi v19 c2_i32
  let v337 : BitVec 32 := Scalar.subi c1_i32_256 v31
  let c512_i32_257 : BitVec 32 := 512#32
  let v338 : BitVec 32 := Scalar.muli v337 c512_i32_257
  let v420 : Index := Scalar.indexCast v338
  ![v419.toNat, v420.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c0_i32_310 : BitVec 32 := 0#32
  ![v335.toNat, 0]
def k0_dev15 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_306 : BitVec 32 := 1#32
  let v429 : BitVec 32 := Scalar.muli v24 c1_i32_306
  let v430 : BitVec 32 := Scalar.addi c0_i32_307 v429
  v430.toNat
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_252 : BitVec 32 := 1#32
  let v333 : BitVec 32 := Scalar.addi v20 c1_i32_252
  let c4_i32_253 : BitVec 32 := 4#32
  let v334 : BitVec 32 := Scalar.remsi v333 c4_i32_253
  let c256_i32_254 : BitVec 32 := 256#32
  let v335 : BitVec 32 := Scalar.muli v334 c256_i32_254
  let c512_i32_318 : BitVec 32 := 512#32
  ![v335.toNat, 512]
def k0_dev16 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_314 : BitVec 32 := 1#32
  let v438 : BitVec 32 := Scalar.muli v28 c1_i32_314
  let v439 : BitVec 32 := Scalar.addi c0_i32_315 v438
  v439.toNat
def k0_dev17 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_344 : BitVec 32 := 1#32
  let v466 : BitVec 32 := Scalar.muli v24 c1_i32_344
  let v467 : BitVec 32 := Scalar.addi c0_i32_345 v466
  v467.toNat
def k0_dev18 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_354 : BitVec 32 := 1#32
  let v476 : BitVec 32 := Scalar.muli v28 c1_i32_354
  let v477 : BitVec 32 := Scalar.addi c0_i32_355 v476
  v477.toNat
def k0_off19 (d0 : Dev nD) (c0_i32_319 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v447 : BitVec 32 := Scalar.subi v20 c0_i32_319
  let c8_i32_320 : BitVec 32 := 8#32
  let v448 : BitVec 32 := Scalar.addi v447 c8_i32_320
  let c4_i32_321 : BitVec 32 := 4#32
  let v449 : BitVec 32 := Scalar.remsi v448 c4_i32_321
  let c256_i32_363 : BitVec 32 := 256#32
  let v489 : BitVec 32 := Scalar.muli v449 c256_i32_363
  let v490 : Index := Scalar.indexCast v489
  let c0_364 : Index := 0#32
  ![v490.toNat, 0]
def k0_off20 (d0 : Dev nD) (c0_i32_322 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v450 : BitVec 32 := Scalar.addi v20 c0_i32_322
  let c4_i32_323 : BitVec 32 := 4#32
  let v451 : BitVec 32 := Scalar.remsi v450 c4_i32_323
  let c2_i32_365 : BitVec 32 := 2#32
  let v492 : BitVec 32 := Scalar.addi v451 c2_i32_365
  let c4_i32_366 : BitVec 32 := 4#32
  let v493 : BitVec 32 := Scalar.remsi v492 c4_i32_366
  let c256_i32_370 : BitVec 32 := 256#32
  let v497 : BitVec 32 := Scalar.muli v493 c256_i32_370
  let v498 : Index := Scalar.indexCast v497
  let c512_371 : Index := 512#32
  ![v498.toNat, 512]
def k0_dev19 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_401 : BitVec 32 := 1#32
  let v521 : BitVec 32 := Scalar.muli v24 c1_i32_401
  let v522 : BitVec 32 := Scalar.addi c0_i32_402 v521
  v522.toNat
def k0_dev20 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_411 : BitVec 32 := 1#32
  let v531 : BitVec 32 := Scalar.muli v28 c1_i32_411
  let v532 : BitVec 32 := Scalar.addi c0_i32_412 v531
  v532.toNat
def k0_dev21 (d0 : Dev nD) : Nat :=
  let c0_i32_572_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_571_r0 : BitVec 32 := 1#32
  let v667_r0 : BitVec 32 := Scalar.muli v24 c1_i32_571_r0
  let v668_r0 : BitVec 32 := Scalar.addi c0_i32_572_r0 v667_r0
  v668_r0.toNat
def k0_dev22 (d0 : Dev nD) : Nat :=
  let c0_i32_575_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_574_r0 : BitVec 32 := 1#32
  let v669_r0 : BitVec 32 := Scalar.muli v28 c1_i32_574_r0
  let v670_r0 : BitVec 32 := Scalar.addi c0_i32_575_r0 v669_r0
  v670_r0.toNat
def k0_dev23 (d0 : Dev nD) : Nat :=
  let c0_i32_578_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_11 : BitVec 32 := 4#32
  let v29 : BitVec 32 := Scalar.xori v2 c4_i32_11
  let c1_i32_577_r0 : BitVec 32 := 1#32
  let v671_r0 : BitVec 32 := Scalar.muli v29 c1_i32_577_r0
  let v672_r0 : BitVec 32 := Scalar.addi c0_i32_578_r0 v671_r0
  v672_r0.toNat
def k0_dev24 (d0 : Dev nD) : Nat :=
  let c0_i32_581_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v30 : BitVec 32 := Scalar.xori v2 c8_i32
  let c1_i32_580_r0 : BitVec 32 := 1#32
  let v673_r0 : BitVec 32 := Scalar.muli v30 c1_i32_580_r0
  let v674_r0 : BitVec 32 := Scalar.addi c0_i32_581_r0 v673_r0
  v674_r0.toNat
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x65536 : Shape := ⟨2, ![1024, 65536]⟩
abbrev S65536x1024 : Shape := ⟨2, ![65536, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x65536, .bf16⟩
  | .hbm, ⟨1, _⟩ => ⟨S1024x65536, .bf16⟩
  | .hbm, ⟨2, _⟩ => ⟨S65536x1024, .bf16⟩
  | .hbm, ⟨3, _⟩ => ⟨S1024x1024, .f32⟩
  | .hbm, ⟨4, _⟩ => ⟨S1024x1024, .bf16⟩
  | .hbm, ⟨5, _⟩ => ⟨S1024x1024, .f32⟩
  | _, _ => ⟨S1024x65536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.Devices.lean ====
/- The mesh: each device's four peers, and the places its copies read and write, in closed form. -/
module

public import proofs.«01_k».proof.Proof.Gen.KernelIdeal
public import proofs.«01_k».proof.Proof.Gen.KernelIdeal.Launch

@[expose] public section

noncomputable section

namespace Cert.KernelIdeal.Ring

open Idealize.ShloMosaic Idealize.ShloMosaic.TcCoe
open Cert.KernelIdeal Cert.KernelIdeal.Gen

/-- The next device of the ring of four. -/
def cw (c : Dev nD) : Dev nD := ⟨4 * (c.val / 4) + (c.val % 4 + 1) % 4, by have := c.isLt; simp only [nD] at *; omega⟩
/-- The previous device of the ring of four. -/
def ccw (c : Dev nD) : Dev nD := ⟨4 * (c.val / 4) + (c.val % 4 + 3) % 4, by have := c.isLt; simp only [nD] at *; omega⟩
/-- The partner across the first pairing of rings: rings 0 and 1, rings 2 and 3. -/
def p1 (c : Dev nD) : Dev nD := ⟨4 * ((c.val / 8) * 2 + (c.val / 4 + 1) % 2) + c.val % 4, by have := c.isLt; simp only [nD] at *; omega⟩
/-- The partner across the second pairing of rings: rings 0 and 2, rings 1 and 3. -/
def p2 (c : Dev nD) : Dev nD := ⟨(c.val + 8) % 16, by simp only [nD]; omega⟩

/-- The four peers by direction. -/
def peer : Fin 4 → Dev nD → Dev nD := ![cw, ccw, p1, p2]
/-- The direction back. -/
def back : Fin 4 → Fin 4 := ![1, 0, 2, 3]

theorem back_back : ∀ d, back (back d) = d := by decide
theorem peer_back : ∀ (d : Fin 4) (c : Dev nD), peer (back d) (peer d c) = c := by decide
theorem peer_back' : ∀ (d : Fin 4) (c : Dev nD), peer d (peer (back d) c) = c := by decide
theorem cw_ccw : ∀ c, cw (ccw c) = c := by decide
theorem ccw_cw : ∀ c, ccw (cw c) = c := by decide
theorem p1_p1 : ∀ c, p1 (p1 c) = c := by decide
theorem p2_p2 : ∀ c, p2 (p2 c) = c := by decide
theorem p1_p2 : ∀ c, p1 (p2 c) = p2 (p1 c) := by decide

/-- A direction's peers, as a permutation of the devices. -/
def peerEquiv (d : Fin 4) : Dev nD ≃ Dev nD where
  toFun := peer d
  invFun := peer (back d)
  left_inv := peer_back d
  right_inv := peer_back' d

theorem dev1_eq : ∀ c : Dev nD, (⟨k0_dev1 c, k0_dev1_lt c⟩ : Dev nD) = cw c := by decide +kernel
theorem dev2_eq : ∀ c : Dev nD, (⟨k0_dev2 c, k0_dev2_lt c⟩ : Dev nD) = ccw c := by decide +kernel
theorem dev3_eq : ∀ c : Dev nD, (⟨k0_dev3 c, k0_dev3_lt c⟩ : Dev nD) = p1 c := by decide +kernel
theorem dev4_eq : ∀ c : Dev nD, (⟨k0_dev4 c, k0_dev4_lt c⟩ : Dev nD) = p2 c := by decide +kernel
theorem dev5_eq : ∀ c : Dev nD, (⟨k0_dev5 c, k0_dev5_lt c⟩ : Dev nD) = cw c := by decide +kernel
theorem dev6_eq : ∀ c : Dev nD, (⟨k0_dev6 c, k0_dev6_lt c⟩ : Dev nD) = ccw c := by decide +kernel
theorem dev7_eq : ∀ c : Dev nD, (⟨k0_dev7 c, k0_dev7_lt c⟩ : Dev nD) = cw c := by decide +kernel
theorem dev8_eq : ∀ c : Dev nD, (⟨k0_dev8 c, k0_dev8_lt c⟩ : Dev nD) = ccw c := by decide +kernel
theorem dev9_eq : ∀ c : Dev nD, (⟨k0_dev9 c, k0_dev9_lt c⟩ : Dev nD) = cw c := by decide +kernel
theorem dev10_eq : ∀ c : Dev nD, (⟨k0_dev10 c, k0_dev10_lt c⟩ : Dev nD) = ccw c := by decide +kernel
theorem dev11_eq : ∀ c : Dev nD, (⟨k0_dev11 c, k0_dev11_lt c⟩ : Dev nD) = p1 c := by decide +kernel
theorem dev12_eq : ∀ c : Dev nD, (⟨k0_dev12 c, k0_dev12_lt c⟩ : Dev nD) = p2 c := by decide +kernel
theorem dev13_eq : ∀ c : Dev nD, (⟨k0_dev13 c, k0_dev13_lt c⟩ : Dev nD) = p2 c := by decide +kernel
theorem dev14_eq : ∀ c : Dev nD, (⟨k0_dev14 c, k0_dev14_lt c⟩ : Dev nD) = p1 c := by decide +kernel
theorem dev15_eq : ∀ c : Dev nD, (⟨k0_dev15 c, k0_dev15_lt c⟩ : Dev nD) = cw c := by decide +kernel
theorem dev16_eq : ∀ c : Dev nD, (⟨k0_dev16 c, k0_dev16_lt c⟩ : Dev nD) = ccw c := by decide +kernel
theorem dev17_eq : ∀ c : Dev nD, (⟨k0_dev17 c, k0_dev17_lt c⟩ : Dev nD) = cw c := by decide +kernel
theorem dev18_eq : ∀ c : Dev nD, (⟨k0_dev18 c, k0_dev18_lt c⟩ : Dev nD) = ccw c := by decide +kernel
theorem dev19_eq : ∀ c : Dev nD, (⟨k0_dev19 c, k0_dev19_lt c⟩ : Dev nD) = cw c := by decide +kernel
theorem dev20_eq : ∀ c : Dev nD, (⟨k0_dev20 c, k0_dev20_lt c⟩ : Dev nD) = ccw c := by decide +kernel
theorem dev21_eq : ∀ c : Dev nD, (⟨k0_dev21 c, k0_dev21_lt c⟩ : Dev nD) = cw c := by decide +kernel
theorem dev22_eq : ∀ c : Dev nD, (⟨k0_dev22 c, k0_dev22_lt c⟩ : Dev nD) = ccw c := by decide +kernel
theorem dev23_eq : ∀ c : Dev nD, (⟨k0_dev23 c, k0_dev23_lt c⟩ : Dev nD) = p1 c := by decide +kernel
theorem dev24_eq : ∀ c : Dev nD, (⟨k0_dev24 c, k0_dev24_lt c⟩ : Dev nD) = p2 c := by decide +kernel

/-- The row block a device's ring has reduced, as a first row. -/
def rowR (c : Dev nD) : Nat := 256 * ((c.val % 4 + 1) % 4)
/-- First column of the half a device keeps reducing across the first pairing. -/
def halfKeep (c : Dev nD) : Nat := 512 * ((c.val / 4) % 2)
/-- First column of the half a device sends its partner. -/
def halfSend (c : Dev nD) : Nat := 512 * (1 - (c.val / 4) % 2)
/-- First column of the quarter a device keeps reducing across the second pairing. -/
def qKeep (c : Dev nD) : Nat := halfKeep c + 256 * ((c.val / 8) % 2)
/-- First column of the quarter a device sends its partner. -/
def qSend (c : Dev nD) : Nat := halfKeep c + 256 * (1 - (c.val / 8) % 2)

theorem off9_eq : ∀ c : Dev nD, k0_off9 c = ![rowR c, halfSend c] := by decide +kernel
theorem off10_eq : ∀ c : Dev nD, k0_off10 c = ![rowR c, halfKeep c] := by decide +kernel
theorem off11_eq : ∀ c : Dev nD, k0_off11 c = ![rowR c, qSend c] := by decide +kernel
theorem off12_eq : ∀ c : Dev nD, k0_off12 c = ![rowR c, qKeep c] := by decide +kernel
theorem off13_eq : ∀ c : Dev nD, k0_off13 c = ![rowR c, qKeep c] := by decide +kernel
theorem off14_eq : ∀ c : Dev nD, k0_off14 c = ![rowR c, qSend c] := by decide +kernel
theorem off15_eq : ∀ c : Dev nD, k0_off15 c = ![rowR c, halfKeep c] := by decide +kernel
theorem off16_eq : ∀ c : Dev nD, k0_off16 c = ![rowR c, halfSend c] := by decide +kernel

end Cert.KernelIdeal.Ring

end
-- ==== Proof.Ring.Regions.lean ====
/- Rectangles of the two 1024×1024 buffers and the landing buffers: what is owned of them, split and joined. -/
module

public import proofs.«01_k».proof.Proof.Ring.Devices
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: rounds of duties named by the four directions. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The accumulator and the result's staging buffer. -/
abbrev accM : Memref sig .tc .vmem S1024x1024 .bf16 := Memref.whole cc0_scratch0
abbrev outM : Memref sig .tc .vmem S1024x1024 .f32 := Memref.whole cc0_stg2_0

/-! ## Boxes -/

abbrev Off : Type := Fin 2 → Nat

/-- The indices of a 1024×1024 array inside the rectangle at `off` of sizes `sz`. -/
def box (off sz : Off) : Finset S1024x1024.Idx := Finset.univ.filter fun i => ∀ a, off a ≤ (i a).val ∧ (i a).val < off a + sz a

theorem mem_box {off sz : Off} {i : S1024x1024.Idx} :
    i ∈ box off sz ↔ (off 0 ≤ (i 0).val ∧ (i 0).val < off 0 + sz 0) ∧ (off 1 ≤ (i 1).val ∧ (i 1).val < off 1 + sz 1) := by
  simp only [box, Finset.mem_filter, Finset.mem_univ, true_and]
  exact ⟨fun h => ⟨h 0, h 1⟩, fun h a => by
    match a with
    | ⟨0, _⟩ => exact h.1
    | ⟨1, _⟩ => exact h.2⟩

/-- The array index `j` of the rectangle at `off`. -/
def ix (off : Off) {sz : Off} (j : (a : Fin 2) → Fin (sz a)) : S1024x1024.Idx :=
  fun a => ⟨(off a + (j a).val) % S1024x1024.size a, Nat.mod_lt _ (by revert a; decide)⟩

/-- A function of the array, read over the rectangle at `off`. -/
def rd {α : Type} (off : Off) {sz : Off} (X : S1024x1024.Idx → α) : ((a : Fin 2) → Fin (sz a)) → α := fun j => X (ix off j)

theorem size_acc (a : Fin 2) : S1024x1024.size a = 1024 := by revert a; decide

theorem emb_eq {off sz : Off} (inb : ∀ a, off a + sz a ≤ S1024x1024.size a) (j : (a : Fin 2) → Fin (sz a)) :
    (Rect.unit (s := S1024x1024) off sz inb).emb j = ix off j := by
  funext a
  apply Fin.ext
  have h := inb a
  have hj := (j a).isLt
  show off a + 1 * (j a).val = (off a + (j a).val) % S1024x1024.size a
  rw [Nat.mod_eq_of_lt (lt_of_lt_of_le (Nat.add_lt_add_left hj _) h), Nat.one_mul]

theorem ix_mem {off sz : Off} (inb : ∀ a, off a + sz a ≤ S1024x1024.size a) (j : (a : Fin 2) → Fin (sz a)) : ix off j ∈ box off sz := by
  simp only [box, Finset.mem_filter, Finset.mem_univ, true_and]
  intro a
  have h := inb a
  have hj := (j a).isLt
  show off a ≤ (off a + (j a).val) % S1024x1024.size a ∧ (off a + (j a).val) % S1024x1024.size a < off a + sz a
  rw [Nat.mod_eq_of_lt (lt_of_lt_of_le (Nat.add_lt_add_left hj _) h)]
  exact ⟨Nat.le_add_right _ _, Nat.add_lt_add_left hj _⟩

theorem rect_set {off sz : Off} (inb : ∀ a, off a + sz a ≤ S1024x1024.size a) :
    (Rect.unit (s := S1024x1024) off sz inb).set = box off sz := by
  ext i
  rw [Rect.mem_set_unit]
  simp only [box, Finset.mem_filter, Finset.mem_univ, true_and]

theorem acc_set {off sz : Off} (inb : ∀ a, off a + sz a ≤ S1024x1024.size a) (h) :
    (accM.slice (Rect.unit (s := S1024x1024) off sz inb) h).view.set = box off sz :=
  (View.set_slice_whole _ _).trans (rect_set inb)

theorem acc_setOn {off sz : Off} (inb : ∀ a, off a + sz a ≤ S1024x1024.size a) :
    accM.view.setOn (Rect.unit (s := S1024x1024) off sz inb).toLoadRect.set = box off sz :=
  (View.set_slice accM.view (Rect.unit (s := S1024x1024) off sz inb)).symm.trans ((View.set_slice_whole _ _).trans (rect_set inb))

theorem acc_access {off sz : Off} (inb : ∀ a, off a + sz a ≤ S1024x1024.size a) :
    (accM.access (Rect.unit (s := S1024x1024) off sz inb)).setOn Finset.univ = box off sz :=
  (View.set_slice_whole _ _).trans (rect_set inb)

theorem out_setOn {off sz : Off} (inb : ∀ a, off a + sz a ≤ S1024x1024.size a) :
    outM.view.setOn (Rect.unit (s := S1024x1024) off sz inb).toLoadRect.set = box off sz :=
  (View.set_slice outM.view (Rect.unit (s := S1024x1024) off sz inb)).symm.trans ((View.set_slice_whole _ _).trans (rect_set inb))

theorem out_access {off sz : Off} (inb : ∀ a, off a + sz a ≤ S1024x1024.size a) :
    (outM.access (Rect.unit (s := S1024x1024) off sz inb)).setOn Finset.univ = box off sz :=
  (View.set_slice_whole _ _).trans (rect_set inb)

theorem acc_read {off sz : Off} (inb : ∀ a, off a + sz a ≤ S1024x1024.size a) (h) (X : S1024x1024.Idx → Elt F .bf16) :
    (accM.slice (Rect.unit (s := S1024x1024) off sz inb) h).view.read (Elt F) X = rd off X := by
  funext j
  show X ((Rect.unit (s := S1024x1024) off sz inb).emb j) = _
  rw [emb_eq]; rfl

theorem acc_readAt {off sz : Off} (inb : ∀ a, off a + sz a ≤ S1024x1024.size a) (X : S1024x1024.Idx → Elt F .bf16) :
    accM.view.readAt (Elt F) (Rect.unit (s := S1024x1024) off sz inb).toLoadRect X = rd off X := by
  funext j
  show X ((Rect.unit (s := S1024x1024) off sz inb).emb j) = _
  rw [emb_eq]; rfl

/-! ## Ownership of a box -/

/-- Device `c`'s share `q` of the accumulator's rectangle at `off`, at contents `X`. -/
def Acc (c : Dev nD) (off sz : Off) (q : PosShare TreeShare) (X : S1024x1024.Idx → Elt F .bf16) : sProp 𝕄 :=
  (accM : Memref sig .tc .vmem S1024x1024 .bf16).view.loc (c : Thread nD τ) ↦[box off sz]{q} X
/-- Device `c`'s rectangle of the result at `off`, at contents `X`. -/
def Out (c : Dev nD) (off sz : Off) (X : S1024x1024.Idx → Elt F .f32) : sProp 𝕄 :=
  (outM : Memref sig .tc .vmem S1024x1024 .f32).view.loc (c : Thread nD τ) ↦[box off sz]{fullShare} X

instance Acc_storable (c : Dev nD) (off sz q) (X) : BI.Storable (upEmb : UEmb _ 𝕄) (Acc (F := F) c off sz q X) := by unfold Acc; infer_instance

theorem Acc_congr {c : Dev nD} {off sz : Off} {q} {X Y : S1024x1024.Idx → Elt F .bf16} (h : ∀ i ∈ box off sz, X i = Y i) :
    (Acc c off sz q X : sProp 𝕄) = Acc c off sz q Y := pointsTo_congr h
theorem Out_congr {c : Dev nD} {off sz : Off} {X Y : S1024x1024.Idx → Elt F .f32} (h : ∀ i ∈ box off sz, X i = Y i) :
    (Out c off sz X : sProp 𝕄) = Out c off sz Y := pointsTo_congr h

theorem Acc_share (c : Dev nD) (off sz : Off) (q : PosShare TreeShare) (X : S1024x1024.Idx → Elt F .bf16) :
    (Acc c off sz q X : sProp 𝕄) = iprop(Acc c off sz q.left X ∗ Acc c off sz q.right X) := by
  unfold Acc; exact Entails.antisymm (pointsTo_share (PosShare.mem_left_op_right q)).1 (pointsTo_share (PosShare.mem_left_op_right q)).2

/-- Two boxes that make up a third. -/
structure Parts (o s o₁ s₁ o₂ s₂ : Off) : Prop where
  union : box o s = box o₁ s₁ ∪ box o₂ s₂
  disj : Disjoint (box o₁ s₁) (box o₂ s₂)

theorem Acc_split {o s o₁ s₁ o₂ s₂ : Off} (h : Parts o s o₁ s₁ o₂ s₂) (c : Dev nD) (q : PosShare TreeShare) (X : S1024x1024.Idx → Elt F .bf16) :
    (Acc c o s q X : sProp 𝕄) = iprop(Acc c o₁ s₁ q X ∗ Acc c o₂ s₂ q X) := by
  unfold Acc; rw [h.union]; exact Entails.antisymm (pointsTo_union h.disj).1 (pointsTo_union h.disj).2

theorem Out_split {o s o₁ s₁ o₂ s₂ : Off} (h : Parts o s o₁ s₁ o₂ s₂) (c : Dev nD) (X : S1024x1024.Idx → Elt F .f32) :
    (Out c o s X : sProp 𝕄) = iprop(Out c o₁ s₁ X ∗ Out c o₂ s₂ X) := by
  unfold Out; rw [h.union]; exact Entails.antisymm (pointsTo_union h.disj).1 (pointsTo_union h.disj).2

/-! ## Landing buffers: what is held is named by what the view reads -/

/-- Device `c`'s share `q` of the view's elements, the view reading `x`. -/
def Held {s : Shape} {e : EltTy} (M : Memref sig .tc .vmem s e) (c : Dev nD) (q : PosShare TreeShare) (x : s.Idx → Elt F e) : sProp 𝕄 :=
  iprop(∃ f : Buf (Elt F) (M.view.loc (c : Thread nD τ)), ⌜M.view.read (Elt F) f = x⌝ ∗ (M.view.loc (c : Thread nD τ) ↦[M.view.set]{q} f))
/-- Device `c`'s elements of the view, at any contents. -/
def Free {s : Shape} {e : EltTy} (M : Memref sig .tc .vmem s e) (c : Dev nD) : sProp 𝕄 :=
  iprop(∃ f : Buf (Elt F) (M.view.loc (c : Thread nD τ)), (M.view.loc (c : Thread nD τ) ↦[M.view.set]{fullShare} f))

instance Held_storable {s e} (M : Memref sig .tc .vmem s e) (c : Dev nD) (q) (x) : BI.Storable (upEmb : UEmb _ 𝕄) (Held (F := F) M c q x) := by unfold Held; infer_instance
instance Free_storable {s e} (M : Memref sig .tc .vmem s e) (c : Dev nD) : BI.Storable (upEmb : UEmb _ 𝕄) (Free (F := F) M c) := by unfold Free; infer_instance

theorem Held_free {s e} (M : Memref sig .tc .vmem s e) (c : Dev nD) (x : s.Idx → Elt F e) : (Held M c fullShare x : sProp 𝕄) ⊢ Free M c := by
  unfold Held Free
  iintro ⟨%f, -, H⟩
  iexists f; iexact H

theorem Held_share {s e} (M : Memref sig .tc .vmem s e) (c : Dev nD) (q : PosShare TreeShare) (x : s.Idx → Elt F e) :
    (Held M c q x : sProp 𝕄) ⊢ iprop(Held M c q.left x ∗ Held M c q.right x) := by
  unfold Held
  iintro ⟨%f, %hf, H⟩
  ihave H' := ((pointsTo_share (PosShare.mem_left_op_right q)).1) $$ H
  icases H' with ⟨H1, H2⟩
  isplitl [H1]
  · iexists f; isplitr; · ipureintro; exact hf
    iexact H1
  · iexists f; isplitr; · ipureintro; exact hf
    iexact H2

abbrev slot0 (M : Memref sig .tc .vmem S3x256x512 .bf16) : Memref sig .tc .vmem S256x512 .bf16 :=
  (M.slice (Rect.unit (s := S3x256x512) ![0, 0, 0] S1x256x512.size inb_S3x256x512_S1x256x512_0_0_0) (fun _ => rfl)).squeeze S256x512 squeezes_S1x256x512_S256x512
abbrev slot1 (M : Memref sig .tc .vmem S3x256x512 .bf16) : Memref sig .tc .vmem S256x512 .bf16 :=
  (M.slice (Rect.unit (s := S3x256x512) ![1, 0, 0] S1x256x512.size inb_S3x256x512_S1x256x512_1_0_0) (fun _ => rfl)).squeeze S256x512 squeezes_S1x256x512_S256x512
abbrev slot2 (M : Memref sig .tc .vmem S3x256x512 .bf16) : Memref sig .tc .vmem S256x512 .bf16 :=
  (M.slice (Rect.unit (s := S3x256x512) ![2, 0, 0] S1x256x512.size inb_S3x256x512_S1x256x512_2_0_0) (fun _ => rfl)).squeeze S256x512 squeezes_S1x256x512_S256x512

abbrev aM : Memref sig .tc .vmem S3x256x512 .bf16 := Memref.whole cc0_scratch1
abbrev bM : Memref sig .tc .vmem S3x256x512 .bf16 := Memref.whole cc0_scratch2
abbrev e0M : Memref sig .tc .vmem S256x512 .bf16 := Memref.whole cc0_scratch3
abbrev e1M : Memref sig .tc .vmem S256x256 .bf16 := Memref.whole cc0_scratch4
abbrev e2M : Memref sig .tc .vmem S256x256 .bf16 := Memref.whole cc0_scratch5
abbrev e3M : Memref sig .tc .vmem S256x512 .bf16 := Memref.whole cc0_scratch6
abbrev fM : Memref sig .tc .vmem S3x256x512 .bf16 := Memref.whole cc0_scratch7
abbrev gM : Memref sig .tc .vmem S3x256x512 .bf16 := Memref.whole cc0_scratch8

/-- What a load of a ring buffer's slot reads, flattened, is what the slot's view reads. -/
theorem slot_load (M : Memref sig .tc .vmem S3x256x512 .bf16) {o : Fin 3 → Nat} (inb : ∀ a, o a + S1x256x512.size a ≤ S3x256x512.size a) (h)
    (f : M.view.ty.Contents (Elt F)) :
    shapeCast S256x512 (M.view.readAt (Elt F) (Rect.unit (s := S3x256x512) o S1x256x512.size inb).toLoadRect f) shapeCasts_S1x256x512_S256x512
      = ((M.slice (Rect.unit (s := S3x256x512) o S1x256x512.size inb) h).squeeze S256x512 squeezes_S1x256x512_S256x512).view.read (Elt F) f := by
  rfl

end Cert.KernelIdeal.Ring

end
-- ==== Proof.Ring.Values.lean ====
/- The contents the protocol hands over: each device's product, the partial sums of the two ring passes, of the two
   pairings, and the finished row block, each as a function of the place in the 1024×1024 array. -/
module

public import proofs.«01_k».proof.Proof.Ring.Regions
public import Idealize.ShloMosaic.Lib.Pointwise.Reshape

@[expose] public section

noncomputable section

namespace Cert.KernelIdeal.Ring

open Cert.KernelIdeal Cert.KernelIdeal.Gen
open Idealize.ShloMosaic
open Idealize.ShloMosaic.TcCoe

variable {F : FTy → Type} [FloatOps F]
variable (m : (ℓ : Loc nD τ sig) → Buf (Elt F) ℓ)

/-- What device `c`'s two operands hold, staged. -/
def dyS (c : Dev nD) : S1024x4096.Idx → Elt F .bf16 := (win0_0.blk (0 : Fin 1)).view.read (Elt F) (m ((c : Thread nD τ).loc main_arg0))
def wS (c : Dev nD) : S1024x4096.Idx → Elt F .bf16 := (win0_1.blk (0 : Fin 1)).view.read (Elt F) (m ((c : Thread nD τ).loc main_arg1))

/-- 256 rows of an operand from row `256 * b`. -/
def rows (b : Nat) (X : S1024x4096.Idx → Elt F .bf16) : S256x4096.Idx → Elt F .bf16 :=
  fun j => X fun a => match a with
    | ⟨0, _⟩ => ⟨(256 * b + (j 0).val) % 1024, Nat.mod_lt _ (by decide)⟩
    | ⟨1, _⟩ => ⟨(j 1).val, (j 1).isLt⟩

/-- Device `c`'s product of its two blocks. -/
def G (c : Dev nD) (i : S1024x1024.Idx) : Elt F .bf16 :=
  k0_pay1 (rows ((i 0).val / 256) (dyS m c)) (wS m c) fun a => match a with
    | ⟨0, _⟩ => ⟨(i 0).val % 256, Nat.mod_lt _ (by decide)⟩
    | ⟨1, _⟩ => ⟨(i 1).val, (i 1).isLt⟩

/-- The partial sums travelling forward around the ring, after `s` steps; -/
def fwd : Nat → Dev nD → S1024x1024.Idx → Elt F .bf16
  | 0, c => G m c
  | s + 1, c => fun i => FloatOps.addf (G m c i) (fwd s (ccw c) i)
/-- and those travelling backward. -/
def bwd : Nat → Dev nD → S1024x1024.Idx → Elt F .bf16
  | 0, c => G m c
  | s + 1, c => fun i => FloatOps.addf (G m c i) (bwd s (cw c) i)

/-- The ring's sum: the left half came forward, the right half backward. -/
def ringX (c : Dev nD) : S1024x1024.Idx → Elt F .bf16 := fun i => if (i 1).val < 512 then fwd m 3 c i else bwd m 3 c i
/-- Two rings' sum. -/
def pairX (c : Dev nD) : S1024x1024.Idx → Elt F .bf16 := fun i => FloatOps.addf (ringX m c i) (ringX m (p1 c) i)
/-- Four rings' sum. -/
def quadX (c : Dev nD) : S1024x1024.Idx → Elt F .bf16 := fun i => FloatOps.addf (pairX m c i) (pairX m (p2 c) i)

/-- The device that finishes column `i 1` of device `c`'s row block. -/
def own (c : Dev nD) (i : S1024x1024.Idx) : Dev nD :=
  ⟨8 * (((i 1).val % 512) / 256) + 4 * ((i 1).val / 512) + c.val % 4, by
    have h : (i 1).val < 1024 := (i 1).isLt
    simp only [nD]; omega⟩
/-- The finished row block of device `c`. -/
def fin (c : Dev nD) : S1024x1024.Idx → Elt F .bf16 := fun i => quadX m (own c i) i
/-- The device of `c`'s ring whose row block row `i 0` lies in. -/
def rowDev (c : Dev nD) (i : S1024x1024.Idx) : Dev nD :=
  ⟨4 * (c.val / 4) + ((i 0).val / 256 + 3) % 4, by have := c.isLt; simp only [nD] at *; omega⟩
/-- The kernel's result on device `c`. -/
def res (c : Dev nD) : S1024x1024.Idx → Elt F .f32 := fun i => FloatOps.extf .f32 bitsLt_bf16_f32 (fin m (rowDev c i) i)

/-! ## What each copy lands (`x` its sender) -/

def vF (s : Nat) (x : Dev nD) : S256x512.Idx → Elt F .bf16 := rd (k0_off5 x (BitVec.ofNat 32 s)) (fwd m s x)
def vB (s : Nat) (x : Dev nD) : S256x512.Idx → Elt F .bf16 := rd (k0_off6 x (BitVec.ofNat 32 s)) (bwd m s x)
def v6 (x : Dev nD) : S256x512.Idx → Elt F .bf16 := rd (k0_off9 x) (ringX m x)
def v7 (x : Dev nD) : S256x256.Idx → Elt F .bf16 := rd (k0_off11 x) (pairX m x)
def v8 (x : Dev nD) : S256x256.Idx → Elt F .bf16 := rd (k0_off13 x) (fin m x)
def v9 (x : Dev nD) : S256x512.Idx → Elt F .bf16 := rd (k0_off15 x) (fin m x)
def v10 (x : Dev nD) : S256x512.Idx → Elt F .bf16 := rd (k0_off17 x) (fin m x)
def v11 (x : Dev nD) : S256x512.Idx → Elt F .bf16 := rd (k0_off18 x) (fin m x)

/-! ## Places -/

theorem rd_congr {α : Type} {off sz : Off} (inb : ∀ a, off a + sz a ≤ S1024x1024.size a) {X Y : S1024x1024.Idx → α}
    (h : ∀ i ∈ box off sz, X i = Y i) : (rd off X : ((a : Fin 2) → Fin (sz a)) → α) = rd off Y :=
  funext fun j => h _ (ix_mem inb j)

theorem ix_val {off : Off} {sz : Off} (inb : ∀ a, off a + sz a ≤ S1024x1024.size a) (j : (a : Fin 2) → Fin (sz a)) (a : Fin 2) :
    (ix off j a).val = off a + (j a).val :=
  Nat.mod_eq_of_lt (lt_of_lt_of_le (Nat.add_lt_add_left (j a).isLt _) (inb a))

/-! ## The payloads -/

theorem dy_readAt {off : Off} {b : Nat} (hb : off = ![256 * b, 0]) (inb : ∀ a, off a + S256x4096.size a ≤ S1024x4096.size a) (X : S1024x4096.Idx → Elt F .bf16) :
    (Memref.whole cc0_stg0_0 : Memref sig .tc .vmem S1024x4096 .bf16).view.readAt (Elt F) (Rect.unit (s := S1024x4096) off S256x4096.size inb).toLoadRect X = rows b X := by
  subst hb
  funext j
  show X ((Rect.unit (s := S1024x4096) ![256 * b, 0] S256x4096.size inb).emb j) = X _
  congr 1
  funext a
  apply Fin.ext
  have h0 := inb 0
  have h1 : (j 0).val < 256 := (j 0).isLt
  match a with
  | ⟨0, _⟩ =>
    show 256 * b + 1 * (j 0).val = (256 * b + (j 0).val) % 1024
    have h2 : 256 * b + 256 ≤ 1024 := h0
    omega
  | ⟨1, _⟩ =>
    show 0 + 1 * (j 1).val = (j 1).val
    omega

theorem w_readAt (inb : ∀ a, (![0, 0] : Off) a + S1024x4096.size a ≤ S1024x4096.size a) (X : S1024x4096.Idx → Elt F .bf16) :
    (Memref.whole cc0_stg1_0 : Memref sig .tc .vmem S1024x4096 .bf16).view.readAt (Elt F) (Rect.unit (s := S1024x4096) ![0, 0] S1024x4096.size inb).toLoadRect X = X :=
  Memref.readAt_unit_zero (Elt F) cc0_stg1_0 (funext fun a => by fin_cases a <;> rfl) _ X

/-- The product of 256 rows is the product read over those rows. -/
theorem pay1_rows {off : Off} {b : Nat} (hb : off = ![256 * b, 0]) (h4 : b < 4) (c : Dev nD) :
    k0_pay1 (rows b (dyS m c)) (wS m c) = (rd off (G m c) : S256x1024.Idx → Elt F .bf16) := by
  subst hb
  funext j
  have h0 : (j 0).val < 256 := (j 0).isLt
  have h1 : (j 1).val < 1024 := (j 1).isLt
  have e0 : ((ix (![256 * b, 0] : Off) j : S1024x1024.Idx) 0).val = 256 * b + (j 0).val := by
    show (256 * b + (j 0).val) % 1024 = _
    omega
  have e1 : ((ix (![256 * b, 0] : Off) j : S1024x1024.Idx) 1).val = (j 1).val := by
    show (0 + (j 1).val) % 1024 = _
    omega
  show _ = G m c (ix _ j)
  unfold G
  rw [show ((ix (![256 * b, 0] : Off) j : S1024x1024.Idx) 0).val / 256 = b by omega]
  congr 1
  funext a
  apply Fin.ext
  match a with
  | ⟨0, _⟩ => show (j 0).val = ((ix (![256 * b, 0] : Off) j : S1024x1024.Idx) 0).val % 256; omega
  | ⟨1, _⟩ => exact e1.symm

theorem pay2_eq (v : FVec F S256x1024 .bf16) : k0_pay2 v = v := shapeCast_id _ _
theorem pay3_eq (v : Vec F S256x4096 .bf16) (w : Vec F S1024x4096 .bf16) : k0_pay3 v w = k0_pay1 v w := shapeCast_id _ _
theorem pay4_eq (v : Vec F S256x4096 .bf16) (w : Vec F S1024x4096 .bf16) : k0_pay4 v w = k0_pay1 v w := shapeCast_id _ _
theorem pay5_eq (v : Vec F S256x4096 .bf16) (w : Vec F S1024x4096 .bf16) : k0_pay5 v w = k0_pay1 v w := shapeCast_id _ _

section Adds
variable {o : Off} {X Y Z : S1024x1024.Idx → Elt F .bf16} (hZ : ∀ i, Z i = FloatOps.addf (X i) (Y i))
include hZ

theorem pay6_eq {v : Vec F S1x256x512 .bf16} (hv : shapeCast S256x512 v shapeCasts_S1x256x512_S256x512 = rd o Y) : k0_pay6 (rd o X) v = rd o Z := by
  unfold k0_pay6; dsimp only; rw [shapeCast_id, hv]; exact funext fun j => (hZ _).symm
theorem pay7_eq {v : Vec F S1x256x512 .bf16} (hv : shapeCast S256x512 v shapeCasts_S1x256x512_S256x512 = rd o Y) : k0_pay7 (rd o X) v = rd o Z := pay6_eq hZ hv
theorem pay8_eq {v : Vec F S1x256x512 .bf16} (hv : shapeCast S256x512 v shapeCasts_S1x256x512_S256x512 = rd o Y) : k0_pay8 (rd o X) v = rd o Z := pay6_eq hZ hv
theorem pay9_eq {v : Vec F S1x256x512 .bf16} (hv : shapeCast S256x512 v shapeCasts_S1x256x512_S256x512 = rd o Y) : k0_pay10 (k0_pay9 (rd o X) v) = rd o Z := pay6_eq hZ hv
theorem pay11_eq {v : Vec F S1x256x512 .bf16} (hv : shapeCast S256x512 v shapeCasts_S1x256x512_S256x512 = rd o Y) : k0_pay12 (k0_pay11 (rd o X) v) = rd o Z := pay6_eq hZ hv
theorem pay13_eq {v : Vec F S1x256x512 .bf16} (hv : shapeCast S256x512 v shapeCasts_S1x256x512_S256x512 = rd o Y) : k0_pay13 (rd o X) v = rd o Z := pay6_eq hZ hv
theorem pay14_eq : k0_pay14 (rd o X) (rd o Y) = rd o Z := by
  unfold k0_pay14; dsimp only; rw [shapeCast_id]; exact funext fun j => (hZ _).symm
theorem pay15_eq : k0_pay15 (rd o X) (rd o Y) = rd o Z := by
  unfold k0_pay15; dsimp only; rw [shapeCast_id]; exact funext fun j => (hZ _).symm
end Adds

theorem pay16_eq (v : Vec F S256x256 .bf16) : k0_pay16 v = v := shapeCast_id _ _
theorem pay17_eq (v : Vec F S256x512 .bf16) : k0_pay17 v = v := shapeCast_id _ _

theorem pay18_eq {o : Off} {X : S1024x1024.Idx → Elt F .bf16} : k0_pay18 (rd o X) = rd o fun i => FloatOps.extf .f32 bitsLt_bf16_f32 (X i) := rfl
section Ext
variable {o : Off} {X : S1024x1024.Idx → Elt F .bf16} {v : Vec F S1x256x512 .bf16} (hv : shapeCast S256x512 v shapeCasts_S1x256x512_S256x512 = rd o X)
include hv
theorem pay19_eq : k0_pay19 v = rd o fun i => FloatOps.extf .f32 bitsLt_bf16_f32 (X i) := by unfold k0_pay19; rw [hv]; rfl
theorem pay20_eq : k0_pay20 v = rd o fun i => FloatOps.extf .f32 bitsLt_bf16_f32 (X i) := pay19_eq hv
theorem pay21_eq : k0_pay21 v = rd o fun i => FloatOps.extf .f32 bitsLt_bf16_f32 (X i) := pay19_eq hv
theorem pay22_eq : k0_pay22 v = rd o fun i => FloatOps.extf .f32 bitsLt_bf16_f32 (X i) := pay19_eq hv
theorem pay23_eq : k0_pay23 v = rd o fun i => FloatOps.extf .f32 bitsLt_bf16_f32 (X i) := pay19_eq hv
theorem pay24_eq : k0_pay24 v = rd o fun i => FloatOps.extf .f32 bitsLt_bf16_f32 (X i) := pay19_eq hv
end Ext

end Cert.KernelIdeal.Ring

end
-- ==== Proof.Ring.Protocol.lean ====
/- The protocol.

   Every device has 34 cells, all of one round. Its barrier: the four peers signal one unit each, the peer that sends
   toward it in a direction handing over the buffers the copies of that direction land in. Its second barrier: the four
   peers again, nothing handed over. For each of its sixteen copies, in program order, a send cell and a receive cell:
   the receive cell of copy `k` is credited by the peer the copy comes from and hands over the landed contents; the send
   cell hands back what the copy read, except that the copies 6 and 7 leave what they read with the receiver, which
   returns it with the copies 9 and 8. -/
module

public import proofs.«01_k».proof.Proof.Ring.Values
public import Mathlib.Algebra.BigOperators.Intervals

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Cells -/

def sendSem : Fin 16 → DmaSem sig := ![3, 9, 4, 10, 5, 11, 15, 16, 17, 18, 23, 29, 24, 30, 25, 31]
def recvSem : Fin 16 → DmaSem sig := ![6, 12, 7, 13, 8, 14, 19, 20, 21, 22, 26, 32, 27, 33, 28, 34]
/-- Which copy's cell a DMA semaphore is, and whether the receiver's. -/
def role : DmaSem sig → Option (Fin 16 × Bool) :=
  ![none, none, none, some (0, false), some (2, false), some (4, false), some (0, true), some (2, true), some (4, true),
    some (1, false), some (3, false), some (5, false), some (1, true), some (3, true), some (5, true),
    some (6, false), some (7, false), some (8, false), some (9, false), some (6, true), some (7, true), some (8, true), some (9, true),
    some (10, false), some (12, false), some (14, false), some (10, true), some (12, true), some (14, true),
    some (11, false), some (13, false), some (15, false), some (11, true), some (13, true), some (15, true)]
theorem role_send : ∀ k, role (sendSem k) = some (k, false) := by decide
theorem role_recv : ∀ k, role (recvSem k) = some (k, true) := by decide

/-- A device's cells. -/
def csem (j : Fin 34) : SemLoc sig :=
  if j.val = 0 then .reg 0 else if j.val = 1 then .reg 1 else .dma (⟨j.val + 1, by have := j.isLt; show j.val + 1 < 35; omega⟩ : Fin 35)
def sIdx : Fin 16 → Fin 34 := ![2, 8, 3, 9, 4, 10, 14, 15, 16, 17, 22, 28, 23, 29, 24, 30]
def rIdx : Fin 16 → Fin 34 := ![5, 11, 6, 12, 7, 13, 18, 19, 20, 21, 25, 31, 26, 32, 27, 33]
theorem csem_s : ∀ k, csem (sIdx k) = .dma (sendSem k) := by decide
theorem csem_r : ∀ k, csem (rIdx k) = .dma (recvSem k) := by decide
theorem csem_0 : csem 0 = .reg 0 := rfl
theorem csem_1 : csem 1 = .reg 1 := rfl
theorem csem_injective : Function.Injective csem := by decide

abbrev barCell (c : Dev nD) : GSem nD τ sig := ((c : Thread nD τ), .reg 0)
abbrev endCell (c : Dev nD) : GSem nD τ sig := ((c : Thread nD τ), .reg 1)
abbrev sendCell (c : Dev nD) (k : Fin 16) : GSem nD τ sig := ((c : Thread nD τ), .dma (sendSem k))
abbrev recvCell (c : Dev nD) (k : Fin 16) : GSem nD τ sig := ((c : Thread nD τ), .dma (recvSem k))
abbrev kcell (cj : Dev nD × Fin 34) : GSem nD τ sig := ((cj.1 : Thread nD τ), csem cj.2)

/-- The direction of each copy. -/
def dir : Fin 16 → Fin 4 := ![0, 1, 0, 1, 0, 1, 2, 3, 3, 2, 0, 1, 0, 1, 0, 1]
/-- The amount a copy credits. -/
def amt (k : Fin 16) : ℕ := if k = 7 ∨ k = 8 then e1M.view.dmaCredit else e0M.view.dmaCredit
theorem amt_pos (k : Fin 16) : 0 < amt k := by
  unfold amt; split
  · exact View.dmaCredit_pos _ (by decide)
  · exact View.dmaCredit_pos _ (by decide)

/-! ## What is handed over -/

/-- The buffer copy `k` lands in on device `x`, free. -/
def landFree (k : Fin 16) (x : Dev nD) : sProp 𝕄 :=
  match k.val with
  | 0 => Free (slot0 aM) x | 1 => Free (slot0 bM) x | 2 => Free (slot1 aM) x | 3 => Free (slot1 bM) x | 4 => Free (slot2 aM) x | 5 => Free (slot2 bM) x
  | 6 => Free e0M x | 7 => Free e1M x | 8 => Free e2M x | 9 => Free e3M x
  | 10 => Free (slot0 fM) x | 11 => Free (slot0 gM) x | 12 => Free (slot1 fM) x | 13 => Free (slot1 gM) x | 14 => Free (slot2 fM) x | 15 => Free (slot2 gM) x
  | _ => iprop(emp)

/-- With the signal of direction `d`, device `c` gets the buffers on the signaller its own copies land in. -/
def barPay (c : Dev nD) (d : Fin 4) : sProp 𝕄 :=
  match d with
  | 0 => iprop(landFree 1 (ccw c) ∗ landFree 3 (ccw c) ∗ landFree 5 (ccw c) ∗ landFree 11 (ccw c) ∗ landFree 13 (ccw c) ∗ landFree 15 (ccw c))
  | 1 => iprop(landFree 0 (cw c) ∗ landFree 2 (cw c) ∗ landFree 4 (cw c) ∗ landFree 10 (cw c) ∗ landFree 12 (cw c) ∗ landFree 14 (cw c))
  | 2 => iprop(landFree 6 (p1 c) ∗ landFree 9 (p1 c))
  | 3 => iprop(landFree 7 (p2 c) ∗ landFree 8 (p2 c))

abbrev sz2 : Off := S256x512.size
abbrev sz1 : Off := S256x256.size
abbrev sz4 : Off := S256x1024.size

/-- What device `c`'s send cell of copy `k` hands back. -/
def sendPay (k : Fin 16) (c : Dev nD) : sProp 𝕄 :=
  match k.val with
  | 0 => Acc c (k0_off5 c 0#32) sz2 fullShare (fwd m 0 c) | 1 => Acc c (k0_off6 c 0#32) sz2 fullShare (bwd m 0 c)
  | 2 => Acc c (k0_off5 c 1#32) sz2 fullShare (fwd m 1 c) | 3 => Acc c (k0_off6 c 1#32) sz2 fullShare (bwd m 1 c)
  | 4 => Acc c (k0_off5 c 2#32) sz2 fullShare (fwd m 2 c) | 5 => Acc c (k0_off6 c 2#32) sz2 fullShare (bwd m 2 c)
  | 6 => iprop(emp) | 7 => iprop(emp)
  | 8 => Acc c (k0_off13 c) sz1 fullShare.left (fin m c) | 9 => Acc c (k0_off15 c) sz2 fullShare.right.left (fin m c)
  | 10 => Acc c (k0_off17 c) sz2 fullShare.right.right (fin m c) | 11 => Acc c (k0_off18 c) sz2 fullShare.right.right (fin m c)
  | 12 => Held (slot0 fM) c fullShare.left (v10 m (ccw c)) | 13 => Held (slot0 gM) c fullShare.left (v11 m (cw c))
  | 14 => Held (slot1 fM) c fullShare.left (v10 m (ccw (ccw c))) | 15 => Held (slot1 gM) c fullShare.left (v11 m (cw (cw c)))
  | _ => iprop(emp)

/-- What device `c`'s receive cell of copy `k` hands over. -/
def recvPay (k : Fin 16) (c : Dev nD) : sProp 𝕄 :=
  match k.val with
  | 0 => Held (slot0 aM) c fullShare (vF m 0 (ccw c)) | 1 => Held (slot0 bM) c fullShare (vB m 0 (cw c))
  | 2 => Held (slot1 aM) c fullShare (vF m 1 (ccw c)) | 3 => Held (slot1 bM) c fullShare (vB m 1 (cw c))
  | 4 => Held (slot2 aM) c fullShare (vF m 2 (ccw c)) | 5 => Held (slot2 bM) c fullShare (vB m 2 (cw c))
  | 6 => iprop(Held e0M c fullShare (v6 m (p1 c)) ∗ Acc (p1 c) (k0_off9 (p1 c)) sz2 fullShare (ringX m (p1 c)))
  | 7 => iprop(Held e1M c fullShare (v7 m (p2 c)) ∗ Acc (p2 c) (k0_off11 (p2 c)) sz1 fullShare (pairX m (p2 c)))
  | 8 => iprop(Held e2M c fullShare (v8 m (p2 c)) ∗ Acc c (k0_off11 c) sz1 fullShare (pairX m c))
  | 9 => iprop(Held e3M c fullShare (v9 m (p1 c)) ∗ Acc c (k0_off9 c) sz2 fullShare (ringX m c))
  | 10 => Held (slot0 fM) c fullShare (v10 m (ccw c)) | 11 => Held (slot0 gM) c fullShare (v11 m (cw c))
  | 12 => Held (slot1 fM) c fullShare (v10 m (ccw (ccw c))) | 13 => Held (slot1 gM) c fullShare (v11 m (cw (cw c)))
  | 14 => Held (slot2 fM) c fullShare (v10 m (ccw (ccw (ccw c)))) | 15 => Held (slot2 gM) c fullShare (v11 m (cw (cw (cw c))))
  | _ => iprop(emp)

instance landFree_storable (k : Fin 16) (x : Dev nD) : BI.Storable (upEmb : UEmb _ 𝕄) (landFree (F := F) k x) := by
  unfold landFree; split <;> infer_instance
instance barPay_storable (c : Dev nD) (d : Fin 4) : BI.Storable (upEmb : UEmb _ 𝕄) (barPay (F := F) c d) := by
  fin_cases d <;> (dsimp only [barPay]; infer_instance)
instance sendPay_storable (k : Fin 16) (c : Dev nD) : BI.Storable (upEmb : UEmb _ 𝕄) (sendPay m k c) := by
  unfold sendPay; split <;> infer_instance
instance recvPay_storable (k : Fin 16) (c : Dev nD) : BI.Storable (upEmb : UEmb _ 𝕄) (recvPay m k c) := by
  unfold recvPay; split <;> infer_instance

/-! ## The schedule -/

def rdDuties (s : SemLoc sig) : Finset (Fin 4) := match s with
  | .reg _ => Finset.univ
  | .dma q => match role q with
    | some _ => {0}
    | none => ∅
def rdAmount (s : SemLoc sig) : ℕ := match s with
  | .reg _ => 1
  | .dma q => match role q with
    | some (k, _) => amt k
    | none => 1
def rdPayload (c : Dev nD) (s : SemLoc sig) (d : Fin 4) : sProp 𝕄 := match s with
  | .reg q => if q = (0 : Fin 2) then barPay c d else iprop(emp)
  | .dma q => match role q with
    | some (k, false) => sendPay m k c
    | some (k, true) => recvPay m k c
    | none => iprop(emp)

instance rdPayload_storable (c : Dev nD) (s : SemLoc sig) (d : Fin 4) : BI.Storable (upEmb : UEmb _ 𝕄) (rdPayload m c s d) := by
  unfold rdPayload
  (repeat' split) <;> infer_instance

/-- One round, round 0. -/
def sched : Rounds.Schedule (GSem nD τ sig) (Fin 4) 𝕄 where
  duties g r := if r = 0 ∧ g.1.2 = .tc then rdDuties g.2 else ∅
  unitless _ := False
  amount g _ _ := rdAmount g.2
  payload g _ d := rdPayload m g.1.1 g.2 d
  amount_pos g _ _ _ := by
    unfold rdAmount
    (repeat' split) <;> first | exact Nat.one_pos | exact amt_pos _

instance sched_payload_storable (g : GSem nD τ sig) (r : ℕ) (d : Fin 4) : BI.Storable (upEmb : UEmb _ 𝕄) ((sched m).payload g r d) :=
  rdPayload_storable m g.1.1 g.2 d

theorem duties_tc (c : Dev nD) (s : SemLoc sig) : (sched m).duties ((c : Thread nD τ), s) 0 = rdDuties s :=
  (if_pos ⟨rfl, rfl⟩ : (if (0 : ℕ) = 0 ∧ (c : Thread nD τ).2 = .tc then rdDuties s else ∅) = rdDuties s)
theorem duties_later (g : GSem nD τ sig) : ∀ r, 1 ≤ r → (sched m).duties g r = ∅ := fun r hr => if_neg fun h => by omega
theorem duties_reg (c : Dev nD) (s : Sem sig) : (sched m).duties ((c : Thread nD τ), .reg s) 0 = Finset.univ := duties_tc m c _
theorem duties_send (c : Dev nD) (k : Fin 16) : (sched m).duties (sendCell c k) 0 = {0} := by
  rw [duties_tc]; simp only [rdDuties, role_send]
theorem duties_recv (c : Dev nD) (k : Fin 16) : (sched m).duties (recvCell c k) 0 = {0} := by
  rw [duties_tc]; simp only [rdDuties, role_recv]
theorem amount_reg (c : Dev nD) (s : Sem sig) (d : Fin 4) : (sched m).amount ((c : Thread nD τ), .reg s) 0 d = 1 := rfl
theorem amount_send (c : Dev nD) (k : Fin 16) (d : Fin 4) : (sched m).amount (sendCell c k) 0 d = amt k := by
  show rdAmount (.dma (sendSem k)) = _; simp only [rdAmount, role_send]
theorem amount_recv (c : Dev nD) (k : Fin 16) (d : Fin 4) : (sched m).amount (recvCell c k) 0 d = amt k := by
  show rdAmount (.dma (recvSem k)) = _; simp only [rdAmount, role_recv]
theorem payload_send (c : Dev nD) (k : Fin 16) (d : Fin 4) : (sched m).payload (sendCell c k) 0 d = sendPay m k c := by
  show rdPayload m c (.dma (sendSem k)) d = _; simp only [rdPayload, role_send]
theorem payload_recv (c : Dev nD) (k : Fin 16) (d : Fin 4) : (sched m).payload (recvCell c k) 0 d = recvPay m k c := by
  show rdPayload m c (.dma (recvSem k)) d = _; simp only [rdPayload, role_recv]
theorem payload_bar (c : Dev nD) (d : Fin 4) : (sched m).payload (barCell c) 0 d = barPay c d := rfl
theorem payload_end (c : Dev nD) (d : Fin 4) : (sched m).payload (endCell c) 0 d = iprop(emp) := rfl

theorem expect_reg (c : Dev nD) (s : Sem sig) : (sched m).expect ((c : Thread nD τ), .reg s) 0 = 4 := by
  unfold Schedule.expect Schedule.amountOf
  rw [duties_reg, Finset.sum_congr rfl fun d _ => amount_reg m c s d]; rfl
theorem expect_send (c : Dev nD) (k : Fin 16) : (sched m).expect (sendCell c k) 0 = amt k := by
  unfold Schedule.expect Schedule.amountOf; rw [duties_send, Finset.sum_singleton, amount_send]
theorem expect_recv (c : Dev nD) (k : Fin 16) : (sched m).expect (recvCell c k) 0 = amt k := by
  unfold Schedule.expect Schedule.amountOf; rw [duties_recv, Finset.sum_singleton, amount_recv]

theorem rest_send (c : Dev nD) (k : Fin 16) :
    bigSep ((sched m).duties (sendCell c k) 0 \ ∅) (fun d => (sched m).payload (sendCell c k) 0 d) = sendPay m k c := by
  rw [Finset.sdiff_empty, duties_send, bigSep_singleton, payload_send]
theorem rest_recv (c : Dev nD) (k : Fin 16) :
    bigSep ((sched m).duties (recvCell c k) 0 \ ∅) (fun d => (sched m).payload (recvCell c k) 0 d) = recvPay m k c := by
  rw [Finset.sdiff_empty, duties_recv, bigSep_singleton, payload_recv]
theorem rest_bar (c : Dev nD) :
    bigSep ((sched m).duties (barCell c) 0 \ ∅) (fun d => (sched m).payload (barCell c) 0 d)
      = iprop(barPay c 0 ∗ barPay c 1 ∗ barPay c 2 ∗ barPay c 3) := by
  rw [Finset.sdiff_empty, duties_reg, bigSep_univ_eq_bigSepL [0, 1, 2, 3] (by decide) (by decide), bigSepL_cons_cons, bigSepL_cons_cons, bigSepL_cons_cons, bigSepL_singleton,
    payload_bar, payload_bar, payload_bar, payload_bar]
  rfl

/-! ## What a device owes, in program order -/

/-- The copy the `i`-th payment makes (`4 ≤ i < 20`). -/
def chan (i : ℕ) : Fin 16 := ⟨(i - 4) % 16, Nat.mod_lt _ (by decide)⟩
def owedDir (i : ℕ) : Fin 4 := if i < 4 then ⟨i % 4, Nat.mod_lt _ (by decide)⟩ else if i < 20 then dir (chan i) else ⟨i % 4, Nat.mod_lt _ (by decide)⟩
def owedSem (i : ℕ) : SemLoc sig := if i < 4 then .reg 0 else if i < 20 then .dma (recvSem (chan i)) else .reg 1
def owedAmt (i : ℕ) : ℕ := if i < 4 then 1 else if i < 20 then amt (chan i) else 1
def owedLv (i : ℕ) : ℕ := if i < 4 then 1 else if i < 20 then i - 2 else 18
def owedCell (c : Dev nD) (i : ℕ) : GSem nD τ sig := ((peer (owedDir i) c : Thread nD τ), owedSem i)

/-- What device `c` still owes after its first `n` payments. -/
def owed (c : Dev nD) (n : ℕ) : CellTallies nD τ sig Unit := ∑ i ∈ Finset.Ico n 24, tallyAt (owedCell c i) () (owedAmt i)

theorem owed_step (c : Dev nD) {n : ℕ} (h : n < 24) : owed c n = owed c (n + 1) + tallyAt (owedCell c n) () (owedAmt n) := by
  unfold owed; rw [Finset.sum_eq_sum_Ico_succ_bot h, add_comm]
theorem owed_end (c : Dev nD) : owed c 24 = 0 := by unfold owed; rw [Finset.Ico_self, Finset.sum_empty]

def L (g : GSem nD τ sig) : Finset Unit := if g.1.2 = .tc then {()} else ∅
/-- The order of waiting: staging and send cells first, the barrier, the receive cells in order, the second barrier. -/
def semLv (s : SemLoc sig) : ℕ := match s with
  | .reg q => if q = (0 : Fin 2) then 1 else 18
  | .dma q => match role q with
    | some (k, true) => k.val + 2
    | _ => 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_owed {i : ℕ} (h : i < 24) : semLv (owedSem i) = owedLv i := by
  unfold owedSem owedLv
  by_cases h4 : i < 4
  · rw [if_pos h4, if_pos h4]; rfl
  · rw [if_neg h4, if_neg h4]
    by_cases h20 : i < 20
    · rw [if_pos h20, if_pos h20]
      simp only [semLv, role_recv, chan]
      omega
    · rw [if_neg h20, if_neg h20]; rfl

theorem owed_pos {c : Dev nD} {n : ℕ} {g : GSem nD τ sig} {u : Unit} (h : 0 < owed c n g u) : ∃ i, n ≤ i ∧ i < 24 ∧ g = owedCell c i := by
  by_contra hn
  have h0 : owed c n g u = 0 := by
    unfold owed
    rw [Finset.sum_apply, Finsupp.finsetSum_apply]
    refine Finset.sum_eq_zero fun i hi => ?_
    rw [tallyAt_apply, if_neg]
    rintro ⟨hg, -⟩
    have := Finset.mem_Ico.mp hi
    exact hn ⟨i, this.1, this.2, hg⟩
  omega

/-- A wait below everything still owed is allowed. -/
theorem mayWait (c : Dev nD) (sm : SemLoc sig) (n : ℕ) (h : ∀ i, n ≤ i → i < 24 → semLv sm < owedLv i) :
    (levAts L lv : sProp 𝕄) ⊢ MayWait (c : Thread nD τ) sm () (owed c n) := by
  refine MayOwe.of_cut (L := L) (lev := lv) (semLv sm) (fun p hp => by rw [Finset.mem_singleton.mp hp, L_tc]; exact Finset.mem_singleton_self _)
    (fun g u hg => ?_) (fun p hp => by rw [Finset.mem_singleton.mp hp]; exact le_refl _) (fun g u hg => ?_)
  · obtain ⟨i, -, -, rfl⟩ := owed_pos hg
    exact Finset.mem_singleton_self _
  · obtain ⟨i, h1, h2, rfl⟩ := owed_pos hg
    show semLv sm < semLv (owedSem i)
    rw [semLv_owed h2]; exact h i h1 h2

end Cert.KernelIdeal.Ring

end
-- ==== Proof.Ring.Steps.lean ====
/- The steps of the run, one lemma per kind: signal, barrier wait, copy, wait on a receive cell, wait on a send cell. Each
   takes and gives the bundles below, so that the run itself names no cell's bookkeeping. -/
module

public import proofs.«01_k».proof.Proof.Ring.Protocol
public import proofs.«01_k».proof.Proof.Gen.KernelIdeal.Launch

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

abbrev 𝒱₀ : Variants := Variants.none

/-- Device `c` runs `p`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What all devices may use at any time: every cell's invariant, that every cell has reached its round, and the order of waiting. -/
def Env (K : Dev nD × Fin 34 → ℕ) : sProp 𝕄 :=
  iprop(bigSep Finset.univ (fun cj : Dev nD × Fin 34 => iprop(cellInv ER (sched m) (K cj) (kcell cj) ∗ reached ER (kcell cj) 0)) ∗ levAts L lv)

instance Env_persistent (K : Dev nD × Fin 34 → ℕ) : BI.Persistent (Env m K) := by unfold Env; infer_instance

variable (K : Dev nD × Fin 34 → ℕ)

theorem Env_wait (c : Dev nD) (sm : SemLoc sig) (n : ℕ) (h : ∀ i, n ≤ i → i < 24 → semLv sm < owedLv i) :
    (Env m K : sProp 𝕄) ⊢ MayWait (c : Thread nD τ) sm () (owed c n) := by
  unfold Env; iintro ⟨-, H⟩
  iapply (mayWait (F := F) c sm n h); iexact H
theorem Env_cell (c : Dev nD) (j : Fin 34) {s : SemLoc sig} (hs : csem j = s) :
    (Env m K : sProp 𝕄) ⊢ iprop(cellInv ER (sched m) (K (c, j)) ((c : Thread nD τ), s) ∗ reached ER ((c : Thread nD τ), s) 0) := by
  subst hs
  unfold Env
  exact (Idealize.SL.BI.Entails.trans BI.sep_and BI.and_elimL).trans (bigSep_elim (Finset.mem_univ (c, j)) (Φ := fun cj : Dev nD × Fin 34 => iprop(cellInv ER (sched m) (K cj) (kcell cj) ∗ reached ER (kcell cj) 0)))

/-- Device `c` has made `n` of its payments. -/
def Owe (c : Dev nD) (n : ℕ) : sProp 𝕄 := iprop(∃ W : Waits sig Unit, owes (c : Thread nD τ) (owed c n) W)

/-- What making copy `k` needs: both its duties, and the position on the send cell for the wait after it. -/
def ToSend (k : Fin 16) (c : Dev nD) : sProp 𝕄 :=
  iprop(dutyTok ER (sendCell c k) 0 0 ∗ dutyTok ER (recvCell (peer (dir k) c) k) 0 0 ∗ atPos ER (sendCell c k) 0 ∅ 0)
/-- Copy `k` made, its source not yet waited for. -/
def Sent (k : Fin 16) (c : Dev nD) : sProp 𝕄 :=
  iprop(atPos ER (sendCell c k) 0 ∅ 0 ∗ cred (tallyAt (sendCell c k) () (amt k)))
/-- What waiting for copy `k` to land needs. -/
def ToRecv (k : Fin 16) (c : Dev nD) : sProp 𝕄 :=
  iprop(atPos ER (recvCell c k) 0 ∅ 0 ∗ cred (tallyAt (recvCell c k) () (amt k)))
/-- What waiting on a barrier needs. -/
def ToMeet (s : Sem sig) (c : Dev nD) : sProp 𝕄 :=
  iprop(atPos ER ((c : Thread nD τ), .reg s) 0 ∅ 0 ∗ cred (tallyAt ((c : Thread nD τ), .reg s) () 4))

/-- A signal to the device of direction `d`, the `n`-th payment. -/
theorem signal_step {α : Type} {Q : α → sProp 𝕄} (c x : Dev nD) (d : Fin 4) (n : ℕ) (hx : x = peer d c) (s : Sem sig) {j : Fin 34} (hj : csem j = .reg s) (hn : n < 24)
    (hd : owedDir n = d) (hs : owedSem n = .reg s) (ha : owedAmt n = 1) (k : PUnit → Prog (TpuEff nD τ sig (Elt F) Λ₀ .tc) α)
    {w : BitVec 32} (hw : w = 1#32) :
    iprop(Env m K ∗ Owe c n ∗ dutyTok ER ((x : Thread nD τ), .reg s) 0 d ∗ (sched m).payload ((x : Thread nD τ), .reg s) 0 d)
      ⊢ iprop((Owe c (n + 1) -∗ run c (k ⟨⟩) Q) -∗ run c (.op (.semSignal (x : Thread nD τ) s w.toNat) k) Q) := by
  subst hx hw
  have hO : owed c n = owed c (n + 1) + tallyAt ((peer d c : Thread nD τ), .reg s) () (1#32).toNat := by
    rw [owed_step c hn]; unfold owedCell; rw [hd, hs, ha]; rfl
  unfold Owe
  iintro ⟨#HE, ⟨%W, HO⟩, HT, HP⟩ Hk
  ihave Hc := (Env_cell m K (peer d c) j hj) $$ HE
  icases Hc with ⟨#HI, #HR⟩
  iapply (Rounds.wp_signal 𝒱₀ ER (sched m) (c : Thread nD τ) none (dst := (peer d c : Thread nD τ)) (κ := K (peer d c, j))
      (d := d) (by rw [duties_reg]; exact Finset.mem_univ _) ((amount_reg m (peer d c) s d).trans (by decide)) () (owed c (n + 1)) hO) $$ [HO HT HP]
  · isplitr; · iexact HI
    isplitl [HO]; · iexact HO
    isplitl [HT]; · iexact HT
    isplitl [HP]; · iexact HP
    iexact HR
  iintro HO
  iapply Hk
  iexists W; iexact HO

/-- The wait for the four signals on a barrier. -/
theorem meet_step {α : Type} {Q : α → sProp 𝕄} (c : Dev nD) (n : ℕ) (s : Sem sig) {j : Fin 34} (hj : csem j = .reg s) (h : ∀ i, n ≤ i → i < 24 → semLv (.reg s) < owedLv i)
    (k : PUnit → Prog (TpuEff nD τ sig (Elt F) Λ₀ .tc) α) {w : BitVec 32} (hw : w = 4#32) :
    iprop(Env m K ∗ Owe c n ∗ ToMeet s c)
      ⊢ iprop(((Owe c n ∗ semVal ((c : Thread nD τ), .reg s) 0
              ∗ bigSep ((sched m).duties ((c : Thread nD τ), .reg s) 0 \ ∅) (fun d => (sched m).payload ((c : Thread nD τ), .reg s) 0 d))
            -∗ run c (k ⟨⟩) Q) -∗ run c (.op (.semWait s w.toNat) k) Q) := by
  subst hw
  unfold Owe ToMeet
  iintro ⟨#HE, ⟨%W, HO⟩, HA, HC⟩ Hk
  ihave Hc := (Env_cell m K c j hj) $$ HE
  icases Hc with ⟨#HI, -⟩
  iapply (Rounds.wp_wait_rest_token 𝒱₀ ER (sched m) (c : Thread nD τ) none (κ := K (c, j))
      (wpE_semWait_eq 𝒱₀ (c : Thread nD τ) none Set.univ) (Set.mem_univ _) () (O := owed c n) (W := W) (R := 0) (m := 0) (T := ∅)
      (by rw [expect_reg]; decide)) $$ [HO HA HC]
  · isplitr; · iexact HI
    isplitl [HC]; · iexact HC
    isplitl [HO]; · iexact HO
    isplitr; · iapply (Env_wait m K c (.reg s) n h); iexact HE
    iexact HA
  iintro ⟨HO, HA, -, HP⟩
  imod (Rounds.cell_close ER (sched m) (Set.mem_univ (K (c, j))) (fun h => h) (R := 0 + 1) (duties_later m ((c : Thread nD τ), .reg s))) $$ [HA] with HZ
  · isplitr; · iexact HI
    iexact HA
  iapply Hk
  isplitl [HO]; · iexists _; iexact HO
  isplitl [HZ] <;> iassumption

/-- The wait for copy `k` to land: its landed contents, and the receive cell closed. -/
theorem recv_step {α : Type} {Q : α → sProp 𝕄} (c : Dev nD) (k : Fin 16) (n : ℕ) (hn : 5 + k.val ≤ n) {sp sp' : Space} {s s' : Shape} {e e' : EltTy} {S : DmaSem sig} (hS : S = recvSem k)
    {src : Memref sig .tc sp' s' e'} {dst : Memref sig .tc sp s e} {hsrc : src.view.WordExact} {hdst : dst.view.WordExact}
    (hN : dst.view.dmaCredit = amt k) (p : PUnit → Prog (TpuEff nD τ sig (Elt F) Λ₀ .tc) α) :
    iprop(Env m K ∗ ToRecv k c ∗ Owe c n)
      ⊢ iprop(((recvPay m k c ∗ semVal (recvCell c k) 0 ∗ Owe c n) -∗ run c (p ⟨⟩) Q) -∗ run c (.op (.waitDma2 S src dst hsrc hdst) p) Q) := by
  subst hS
  unfold Owe ToRecv
  rw [← hN]
  iintro ⟨#HE, ⟨HA, HC⟩, %W, HO⟩ Hk
  ihave Hc := (Env_cell m K c (rIdx k) (csem_r k)) $$ HE
  icases Hc with ⟨#HI, -⟩
  iapply (Rounds.wp_wait_rest_token 𝒱₀ ER (sched m) (c : Thread nD τ) none (κ := K (c, rIdx k))
      (wpE_waitDma2_eq 𝒱₀ (c : Thread nD τ) none Set.univ) (Set.mem_univ _) () (O := owed c n) (W := W) (R := 0) (m := 0) (T := ∅)
      (by rw [Nat.zero_add, expect_recv, hN])) $$ [HO HA HC]
  · isplitr; · iexact HI
    isplitl [HC]; · iexact HC
    isplitl [HO]; · iexact HO
    isplitr
    · iapply (Env_wait m K c (.dma (recvSem k)) n (fun i h1 h2 => by
        simp only [semLv, role_recv]; unfold owedLv; have := k.isLt
        rw [if_neg (by omega)]; split <;> omega))
      iexact HE
    iexact HA
  iintro ⟨HO, HA, -, HP⟩
  imod (Rounds.cell_close ER (sched m) (Set.mem_univ (K (c, rIdx k))) (fun h => h) (R := 0 + 1) (duties_later m (recvCell c k))) $$ [HA] with HZ
  · isplitr; · iexact HI
    iexact HA
  ihave HP' := (Entails.of_eq (rest_recv m c k)) $$ HP
  iapply Hk
  isplitl [HP']; · iexact HP'
  isplitl [HZ]; · iexact HZ
  iexists _; iexact HO

/-- The wait for copy `k`'s source: it comes back, and the send cell is closed. -/
theorem done_step {α : Type} {Q : α → sProp 𝕄} (c : Dev nD) (k : Fin 16) {sp sp' : Space} {s s' : Shape} {e e' : EltTy} {S : DmaSem sig} (hS : S = sendSem k)
    {src : Memref sig .tc sp' s' e'} {dst : Memref sig .tc sp s e} {hsrc : src.view.WordExact} {hdst : dst.view.WordExact}
    (hN : dst.view.dmaCredit = amt k) (p : PUnit → Prog (TpuEff nD τ sig (Elt F) Λ₀ .tc) α) :
    iprop(Env m K ∗ Sent k c ∗ Owe c 20)
      ⊢ iprop(((sendPay m k c ∗ semVal (sendCell c k) 0 ∗ Owe c 20) -∗ run c (p ⟨⟩) Q) -∗ run c (.op (.waitDma2 S src dst hsrc hdst) p) Q) := by
  subst hS
  unfold Owe Sent
  rw [← hN]
  iintro ⟨#HE, ⟨HA, HC⟩, %W, HO⟩ Hk
  ihave Hc := (Env_cell m K c (sIdx k) (csem_s k)) $$ HE
  icases Hc with ⟨#HI, -⟩
  iapply (Rounds.wp_wait_rest_token 𝒱₀ ER (sched m) (c : Thread nD τ) none (κ := K (c, sIdx k))
      (wpE_waitDma2_eq 𝒱₀ (c : Thread nD τ) none Set.univ) (Set.mem_univ _) () (O := owed c 20) (W := W) (R := 0) (m := 0) (T := ∅)
      (by rw [Nat.zero_add, expect_send, hN])) $$ [HO HA HC]
  · isplitr; · iexact HI
    isplitl [HC]; · iexact HC
    isplitl [HO]; · iexact HO
    isplitr
    · iapply (Env_wait m K c (.dma (sendSem k)) 20 (fun i h1 h2 => by
        simp only [semLv, role_send]; unfold owedLv
        rw [if_neg (by omega), if_neg (by omega)]; decide))
      iexact HE
    iexact HA
  iintro ⟨HO, HA, -, HP⟩
  imod (Rounds.cell_close ER (sched m) (Set.mem_univ (K (c, sIdx k))) (fun h => h) (R := 0 + 1) (duties_later m (sendCell c k))) $$ [HA] with HZ
  · isplitr; · iexact HI
    iexact HA
  ihave HP' := (Entails.of_eq (rest_send m c k)) $$ HP
  iapply Hk
  isplitl [HP']; · iexact HP'
  isplitl [HZ]; · iexact HZ
  iexists _; iexact HO

theorem owed_send (c : Dev nD) (k : Fin 16) :
    owed c (4 + k.val) = owed c (5 + k.val) + tallyAt (recvCell (peer (dir k) c) k) () (amt k) := by
  have hk := k.isLt
  have hc : chan (4 + k.val) = k := Fin.ext (by simp only [chan]; omega)
  rw [owed_step c (by omega : 4 + k.val < 24), show 4 + k.val + 1 = 5 + k.val by omega]
  unfold owedCell owedDir owedSem owedAmt
  rw [if_neg (by omega), if_pos (by omega), if_neg (by omega), if_pos (by omega), if_neg (by omega), if_pos (by omega), hc]

theorem held_intro {s : Shape} {e : EltTy} (M : Memref sig .tc .vmem s e) (c : Dev nD) (fd : Buf (Elt F) (M.view.loc (c : Thread nD τ))) (x : s.Idx → Elt F e) :
    (M.view.loc (c : Thread nD τ) ↦[M.view.set]{fullShare} (M.view.write (Elt F) fd x Finset.univ) : sProp 𝕄) ⊢ Held M c fullShare x := by
  unfold Held
  iintro H
  iexists (M.view.write (Elt F) fd x Finset.univ)
  isplitr
  · ipureintro; exact View.read_write_univ _ _
  · iexact H

/-- Copy `k`, the source's share coming back on the send cell; `R` goes with the landing. -/
theorem send_step {α : Type} {Q : α → sProp 𝕄} (c x : Dev nD) (k : Fin 16) (hx : x = peer (dir k) c) {s : Shape} {e : EltTy} {S S' : DmaSem sig} (hS : S = sendSem k) (hS' : S' = recvSem k)
    {src dst : Memref sig .tc .vmem s e} {hsc : dst.view.ref.isScScratch = false} {hsrc : src.view.WordExact} {hdst : dst.view.WordExact}
    {hsem : DmaTarget.Typed .vmem (.dma S') (.remote (Dev.tc x : Thread nD τ) dst (.dma S) hsc)}
    (p : PUnit → Prog (TpuEff nD τ sig (Elt F) Λ₀ .tc) α) {q : PosShare TreeShare} (fs : Buf (Elt F) (src.view.loc (c : Thread nD τ))) (R : sProp 𝕄)
    (hN : dst.view.dmaCredit = amt k)
    (h₁ : (src.view.loc (c : Thread nD τ) ↦[src.view.set]{q} fs : sProp 𝕄) ⊢ sendPay m k c)
    (h₂ : iprop(Held dst (peer (dir k) c) fullShare (src.view.read (Elt F) fs) ∗ R) ⊢ recvPay m k (peer (dir k) c)) :
    iprop(Env m K ∗ (src.view.loc (c : Thread nD τ) ↦[src.view.set]{q} fs) ∗ Free dst (peer (dir k) c) ∗ R ∗ ToSend k c ∗ Owe c (4 + k.val))
      ⊢ iprop(((Sent k c ∗ Owe c (5 + k.val)) -∗ run c (p ⟨⟩) Q)
          -∗ run c (.op (.enqueueDma src (.remote (Dev.tc x : Thread nD τ) dst (.dma S) hsc) (.dma S') hsrc hdst hsem) p) Q) := by
  subst hx hS hS'
  unfold Owe ToSend Sent Free
  iintro ⟨#HE, Hs, ⟨%fd, Hd⟩, HR, ⟨HT, HT', HA⟩, %W, HO⟩ Hk
  ihave Hc := (Env_cell m K c (sIdx k) (csem_s k)) $$ HE
  icases Hc with ⟨#HI, #HR1⟩
  ihave Hc := (Env_cell m K (peer (dir k) c) (rIdx k) (csem_r k)) $$ HE
  icases Hc with ⟨#HI', #HR2⟩
  iapply (Rounds.wp_send_pointsTo_with 𝒱₀ ER (sched m) (c : Thread nD τ) none (κ₁ := K (c, sIdx k)) (κ₂ := K (peer (dir k) c, rIdx k))
    (c' := (peer (dir k) c : Thread nD τ)) (sS := .dma (sendSem k)) (sem := .dma (recvSem k)) (src := src) (dst := dst) (q := q) (fs := fs)
    (r₁ := 0) (r₂ := 0) (d₁ := 0) (d₂ := 0) (fd := fd) (F := R)
    (by rw [duties_send]; exact Finset.mem_singleton_self _) (by rw [duties_recv]; exact Finset.mem_singleton_self _)
    () () (amt k) hN (amount_send m c k 0) (amount_recv m (peer (dir k) c) k 0) (owed c (5 + k.val)) (owed_send c k) (W := W)
    (by rw [payload_send]; exact h₁)
    (by rw [payload_recv]; exact (sep_mono_left (held_intro dst _ fd _)).trans h₂)) $$ [Hs Hd HR HO HT HT']
  · isplitr; · iexact HI
    isplitr; · iexact HI'
    isplitl [Hs]; · iexact Hs
    isplitl [Hd HR]
    · isplitl [Hd]; · iexact Hd
      iexact HR
    isplitl [HO]; · iexact HO
    isplitl [HT]; · iexact HT
    isplitr; · iexact HR1
    isplitl [HT']; · iexact HT'
    iexact HR2
  iintro ⟨HC, HO⟩
  iapply Hk
  isplitr [HO]
  · isplitl [HA] <;> iassumption
  iexists W; iexact HO

/-- Copy `k`, the source's share staying with what lands. -/
theorem send_step_landing {α : Type} {Q : α → sProp 𝕄} (c x : Dev nD) (k : Fin 16) (hx : x = peer (dir k) c) {s : Shape} {e : EltTy} {S S' : DmaSem sig} (hS : S = sendSem k) (hS' : S' = recvSem k)
    {src dst : Memref sig .tc .vmem s e} {hsc : dst.view.ref.isScScratch = false} {hsrc : src.view.WordExact} {hdst : dst.view.WordExact}
    {hsem : DmaTarget.Typed .vmem (.dma S') (.remote (Dev.tc x : Thread nD τ) dst (.dma S) hsc)}
    (p : PUnit → Prog (TpuEff nD τ sig (Elt F) Λ₀ .tc) α) {q : PosShare TreeShare} (fs : Buf (Elt F) (src.view.loc (c : Thread nD τ)))
    (hN : dst.view.dmaCredit = amt k)
    (h₁ : (emp : sProp 𝕄) ⊢ sendPay m k c)
    (h₂ : iprop(Held dst (peer (dir k) c) fullShare (src.view.read (Elt F) fs) ∗ (src.view.loc (c : Thread nD τ) ↦[src.view.set]{q} fs)) ⊢ recvPay m k (peer (dir k) c)) :
    iprop(Env m K ∗ (src.view.loc (c : Thread nD τ) ↦[src.view.set]{q} fs) ∗ Free dst (peer (dir k) c) ∗ ToSend k c ∗ Owe c (4 + k.val))
      ⊢ iprop(((Sent k c ∗ Owe c (5 + k.val)) -∗ run c (p ⟨⟩) Q)
          -∗ run c (.op (.enqueueDma src (.remote (Dev.tc x : Thread nD τ) dst (.dma S) hsc) (.dma S') hsrc hdst hsem) p) Q) := by
  subst hx hS hS'
  unfold Owe ToSend Sent Free
  iintro ⟨#HE, Hs, ⟨%fd, Hd⟩, ⟨HT, HT', HA⟩, %W, HO⟩ Hk
  ihave Hc := (Env_cell m K c (sIdx k) (csem_s k)) $$ HE
  icases Hc with ⟨#HI, #HR1⟩
  ihave Hc := (Env_cell m K (peer (dir k) c) (rIdx k) (csem_r k)) $$ HE
  icases Hc with ⟨#HI', #HR2⟩
  iapply (Rounds.wp_send_landing_pointsTo 𝒱₀ ER (sched m) (c : Thread nD τ) none (κ₁ := K (c, sIdx k)) (κ₂ := K (peer (dir k) c, rIdx k))
    (c' := (peer (dir k) c : Thread nD τ)) (sS := .dma (sendSem k)) (sem := .dma (recvSem k)) (src := src) (dst := dst) (q := q) (fs := fs)
    (r₁ := 0) (r₂ := 0) (d₁ := 0) (d₂ := 0) (fd := fd)
    (by rw [duties_send]; exact Finset.mem_singleton_self _) (by rw [duties_recv]; exact Finset.mem_singleton_self _)
    () () (amt k) hN (amount_send m c k 0) (amount_recv m (peer (dir k) c) k 0) (owed c (5 + k.val)) (owed_send c k) (W := W)
    (by rw [payload_send]; exact h₁)
    (by rw [payload_recv]; exact (sep_mono_left (held_intro dst _ fd _)).trans h₂)) $$ [Hs Hd HO HT HT']
  · isplitr; · iexact HI
    isplitr; · iexact HI'
    isplitl [Hs]; · iexact Hs
    isplitl [Hd]; · iexact Hd
    isplitl [HO]; · iexact HO
    isplitl [HT]; · iexact HT
    isplitr; · iexact HR1
    isplitl [HT']; · iexact HT'
    iexact HR2
  iintro ⟨HC, HO⟩
  iapply Hk
  isplitr [HO]
  · isplitl [HA] <;> iassumption
  iexists W; iexact HO

end Cert.KernelIdeal.Ring

end
-- ==== Proof.Ring.Memory.lean ====
/- The loads and stores of the run, each on the rectangle it touches, and the copies from the accumulator and from a
   landing buffer's slot. -/
module

public import proofs.«01_k».proof.Proof.Ring.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## The staged operands -/

abbrev dyM : Memref sig .tc .vmem S1024x4096 .bf16 := Memref.whole cc0_stg0_0
abbrev wM : Memref sig .tc .vmem S1024x4096 .bf16 := Memref.whole cc0_stg1_0

def Dy (c : Dev nD) : sProp 𝕄 := (dyM : Memref sig .tc .vmem S1024x4096 .bf16).view.loc (c : Thread nD τ) ↦[Finset.univ]{fullShare} (dyS m c)
def Wt (c : Dev nD) : sProp 𝕄 := (wM : Memref sig .tc .vmem S1024x4096 .bf16).view.loc (c : Thread nD τ) ↦[Finset.univ]{fullShare} (wS m c)

theorem dy_load {α : Type} {Q : α → sProp 𝕄} (c : Dev nD) {off : Off} (b : Nat) (hb : off = ![256 * b, 0]) (inb : ∀ a, off a + S256x4096.size a ≤ S1024x4096.size a) {hl}
    (k : (S256x4096.Idx → Elt F .bf16) → Prog (TpuEff nD τ sig (Elt F) Λ₀ .tc) α) :
    (Dy m c : sProp 𝕄) ⊢ iprop((Dy m c -∗ run c (k (rows b (dyS m c))) Q)
      -∗ run c (.op (.load dyM (Rect.unit (s := S1024x4096) off S256x4096.size inb).toLoadRect hl) k) Q) := by
  have h := wp_load (defs := defs₀ (F := F)) 𝒱₀ (c : Thread nD τ) none Set.univ (Γ := .empty) (m := dyM) (r := (Rect.unit (s := S1024x4096) off S256x4096.size inb).toLoadRect) (hl := hl) (k := k) (Q := Q)
    (q := fullShare) (f := dyS m c) (S := Finset.univ) (Finset.subset_univ _)
  rw [dy_readAt hb] at h
  exact h

theorem wt_load {α : Type} {Q : α → sProp 𝕄} (c : Dev nD) (inb : ∀ a, (![0, 0] : Off) a + S1024x4096.size a ≤ S1024x4096.size a) {hl}
    (k : (S1024x4096.Idx → Elt F .bf16) → Prog (TpuEff nD τ sig (Elt F) Λ₀ .tc) α) :
    (Wt m c : sProp 𝕄) ⊢ iprop((Wt m c -∗ run c (k (wS m c)) Q)
      -∗ run c (.op (.load wM (Rect.unit (s := S1024x4096) ![0, 0] S1024x4096.size inb).toLoadRect hl) k) Q) := by
  have h := wp_load (defs := defs₀ (F := F)) 𝒱₀ (c : Thread nD τ) none Set.univ (Γ := .empty) (m := wM) (r := (Rect.unit (s := S1024x4096) ![0, 0] S1024x4096.size inb).toLoadRect) (hl := hl) (k := k) (Q := Q)
    (q := fullShare) (f := wS m c) (S := Finset.univ) (Finset.subset_univ _)
  rw [w_readAt] at h
  exact h

/-! ## The accumulator and the result -/

theorem acc_load {α : Type} {Q : α → sProp 𝕄} (c : Dev nD) {off sz : Off} (inb : ∀ a, off a + sz a ≤ S1024x1024.size a) {q : PosShare TreeShare} (X : S1024x1024.Idx → Elt F .bf16) {hl}
    (k : (((a : Fin 2) → Fin (sz a)) → Elt F .bf16) → Prog (TpuEff nD τ sig (Elt F) Λ₀ .tc) α) :
    (Acc c off sz q X : sProp 𝕄) ⊢ iprop((Acc c off sz q X -∗ run c (k (rd off X)) Q)
      -∗ run c (.op (.load accM (Rect.unit (s := S1024x1024) off sz inb).toLoadRect hl) k) Q) := by
  have h := wp_load (defs := defs₀ (F := F)) 𝒱₀ (c : Thread nD τ) none Set.univ (Γ := .empty) (m := accM) (r := (Rect.unit (s := S1024x1024) off sz inb).toLoadRect) (hl := hl) (k := k) (Q := Q)
    (q := q) (f := X) (S := box off sz) (by rw [acc_setOn])
  rw [acc_readAt] at h
  exact h

theorem write_box {off sz : Off} (inb : ∀ a, off a + sz a ≤ S1024x1024.size a) (X : (a : S1024x1024.Idx) → Elt F .bf16) (Y : S1024x1024.Idx → Elt F .bf16)
    (w : ((a : Fin 2) → Fin (sz a)) → Elt F .bf16) (hw : w = rd off Y) :
    ∀ i ∈ box off sz, (accM.access (Rect.unit (s := S1024x1024) off sz inb)).write (Elt F) X w Finset.univ i = Y i := by
  intro i hi
  rw [← rect_set inb, ← Rect.map_emb_univ, Finset.mem_map] at hi
  obtain ⟨j, -, rfl⟩ := hi
  subst hw
  refine (View.write_emb_of_mem (v := accM.access (Rect.unit (s := S1024x1024) off sz inb)) (Val := Elt F) X (rd off Y) (Finset.mem_univ j)).trans ?_
  rw [emb_eq]; rfl

theorem write_box_out {off sz : Off} (inb : ∀ a, off a + sz a ≤ S1024x1024.size a) (X : (a : S1024x1024.Idx) → Elt F .f32) (Y : S1024x1024.Idx → Elt F .f32)
    (w : ((a : Fin 2) → Fin (sz a)) → Elt F .f32) (hw : w = rd off Y) :
    ∀ i ∈ box off sz, (outM.access (Rect.unit (s := S1024x1024) off sz inb)).write (Elt F) X w Finset.univ i = Y i := by
  intro i hi
  rw [← rect_set inb, ← Rect.map_emb_univ, Finset.mem_map] at hi
  obtain ⟨j, -, rfl⟩ := hi
  subst hw
  refine (View.write_emb_of_mem (v := outM.access (Rect.unit (s := S1024x1024) off sz inb)) (Val := Elt F) X (rd off Y) (Finset.mem_univ j)).trans ?_
  rw [emb_eq]; rfl

theorem acc_store {α : Type} {Q : α → sProp 𝕄} (c : Dev nD) {off sz : Off} (inb : ∀ a, off a + sz a ≤ S1024x1024.size a) (X Y : S1024x1024.Idx → Elt F .bf16)
    {w : ((a : Fin 2) → Fin (sz a)) → Elt F .bf16} (hw : w = rd off Y) {hx hm} (k : PUnit → Prog (TpuEff nD τ sig (Elt F) Λ₀ .tc) α) :
    (Acc c off sz fullShare X : sProp 𝕄) ⊢ iprop((Acc c off sz fullShare Y -∗ run c (k ⟨⟩) Q)
      -∗ run c (.op (.store accM (Rect.unit (s := S1024x1024) off sz inb) w Finset.univ hx hm) k) Q) := by
  have h := wp_store (defs := defs₀ (F := F)) 𝒱₀ (c : Thread nD τ) none Set.univ (Γ := .empty) (m := accM) (r := Rect.unit (s := S1024x1024) off sz inb) (w := w) (Mk := Finset.univ) (hx := hx) (hm := hm) (k := k) (Q := Q)
    (f := X) (S := box off sz) (by rw [acc_access])
  exact (h.trans (wand_mono_left (wand_mono_left (Entails.of_eq (pointsTo_congr (write_box inb X Y w hw))))))

theorem out_load {α : Type} {Q : α → sProp 𝕄} (c : Dev nD) {off sz : Off} (inb : ∀ a, off a + sz a ≤ S1024x1024.size a) (X : S1024x1024.Idx → Elt F .f32) {hl}
    (k : (((a : Fin 2) → Fin (sz a)) → Elt F .f32) → Prog (TpuEff nD τ sig (Elt F) Λ₀ .tc) α) :
    (Out c off sz X : sProp 𝕄) ⊢ iprop((Out c off sz X -∗ ∀ v, run c (k v) Q)
      -∗ run c (.op (.load outM (Rect.unit (s := S1024x1024) off sz inb).toLoadRect hl) k) Q) := by
  have h := wp_load (defs := defs₀ (F := F)) 𝒱₀ (c : Thread nD τ) none Set.univ (Γ := .empty) (m := outM) (r := (Rect.unit (s := S1024x1024) off sz inb).toLoadRect) (hl := hl) (k := k) (Q := Q)
    (q := fullShare) (f := X) (S := box off sz) (by rw [out_setOn])
  refine h.trans (wand_mono_left ?_)
  show iprop(Out c off sz X -∗ ∀ v, run c (k v) Q) ⊢ iprop(Out c off sz X -∗ _)
  iintro Hk H
  ispecialize Hk $$ H
  iapply Hk

theorem out_store {α : Type} {Q : α → sProp 𝕄} (c : Dev nD) {off sz : Off} (inb : ∀ a, off a + sz a ≤ S1024x1024.size a) (X Y : S1024x1024.Idx → Elt F .f32)
    {w : ((a : Fin 2) → Fin (sz a)) → Elt F .f32} (hw : w = rd off Y) {hx hm} (k : PUnit → Prog (TpuEff nD τ sig (Elt F) Λ₀ .tc) α) :
    (Out c off sz X : sProp 𝕄) ⊢ iprop((Out c off sz Y -∗ run c (k ⟨⟩) Q)
      -∗ run c (.op (.store outM (Rect.unit (s := S1024x1024) off sz inb) w Finset.univ hx hm) k) Q) := by
  have h := wp_store (defs := defs₀ (F := F)) 𝒱₀ (c : Thread nD τ) none Set.univ (Γ := .empty) (m := outM) (r := Rect.unit (s := S1024x1024) off sz inb) (w := w) (Mk := Finset.univ) (hx := hx) (hm := hm) (k := k) (Q := Q)
    (f := X) (S := box off sz) (by rw [out_access])
  exact h.trans (wand_mono_left (wand_mono_left (Entails.of_eq (pointsTo_congr (write_box_out inb X Y w hw)))))

/-! ## The landing buffers -/

/-- A load of one slot of a ring buffer: what comes, flattened, is what the slot holds. -/
theorem slot_load_step {α : Type} {Q : α → sProp 𝕄} (c : Dev nD) (M : Memref sig .tc .vmem S3x256x512 .bf16) {o : Fin 3 → Nat} (inb : ∀ a, o a + S1x256x512.size a ≤ S3x256x512.size a)
    {hr} {q : PosShare TreeShare} (x : S256x512.Idx → Elt F .bf16) {hl} (k : (S1x256x512.Idx → Elt F .bf16) → Prog (TpuEff nD τ sig (Elt F) Λ₀ .tc) α) :
    (Held ((M.slice (Rect.unit (s := S3x256x512) o S1x256x512.size inb) hr).squeeze S256x512 squeezes_S1x256x512_S256x512) c q x : sProp 𝕄)
      ⊢ iprop((∀ v, ⌜shapeCast S256x512 v shapeCasts_S1x256x512_S256x512 = x⌝ -∗ Held ((M.slice (Rect.unit (s := S3x256x512) o S1x256x512.size inb) hr).squeeze S256x512 squeezes_S1x256x512_S256x512) c q x
            -∗ run c (k v) Q)
        -∗ run c (.op (.load M (Rect.unit (s := S3x256x512) o S1x256x512.size inb).toLoadRect hl) k) Q) := by
  unfold Held
  iintro ⟨%f, %hf, H⟩ Hk
  iapply (wp_load (defs := defs₀ (F := F)) 𝒱₀ (c : Thread nD τ) none Set.univ (Γ := .empty) (m := M) (r := (Rect.unit (s := S3x256x512) o S1x256x512.size inb).toLoadRect) (hl := hl) (k := k) (Q := Q)
    (q := q) (f := f) (by
      exact Finset.subset_of_eq (((View.set_reshape (v := M.view.slice (Rect.unit (s := S3x256x512) o S1x256x512.size inb)) squeezes_S1x256x512_S256x512.numel_eq).trans (View.set_slice _ _)).symm))) $$ H
  iintro H
  iapply Hk
  · ipureintro; exact (slot_load M inb hr f).trans hf
  · iexists f; isplitr; · ipureintro; exact hf
    iexact H

theorem e0_load {α : Type} {Q : α → sProp 𝕄} (c : Dev nD) (inb : ∀ a, (![0, 0] : Off) a + S256x512.size a ≤ S256x512.size a) {q : PosShare TreeShare} (x : S256x512.Idx → Elt F .bf16) {hl}
    (k : (S256x512.Idx → Elt F .bf16) → Prog (TpuEff nD τ sig (Elt F) Λ₀ .tc) α) :
    (Held e0M c q x : sProp 𝕄) ⊢ iprop((Held e0M c q x -∗ run c (k x) Q) -∗ run c (.op (.load e0M (Rect.unit (s := S256x512) ![0, 0] S256x512.size inb).toLoadRect hl) k) Q) := by
  unfold Held
  iintro ⟨%f, %hf, H⟩ Hk
  have h := wp_load (defs := defs₀ (F := F)) 𝒱₀ (c : Thread nD τ) none Set.univ (Γ := .empty) (m := e0M) (r := (Rect.unit (s := S256x512) ![0, 0] S256x512.size inb).toLoadRect) (hl := hl) (k := k) (Q := Q)
    (q := q) (f := f) (S := e0M.view.set) (by rw [View.set_whole]; exact Finset.subset_univ _)
  have hx : e0M.view.readAt (Elt F) (Rect.unit (s := S256x512) ![0, 0] S256x512.size inb).toLoadRect f = x :=
    (Memref.readAt_unit_zero (Elt F) cc0_scratch3 (funext fun a => by fin_cases a <;> rfl) _ f).trans hf
  rw [hx] at h
  iapply h $$ H
  iintro H
  iapply Hk
  iexists f; isplitr; · ipureintro; exact hf
  iexact H

theorem e1_load {α : Type} {Q : α → sProp 𝕄} (c : Dev nD) (inb : ∀ a, (![0, 0] : Off) a + S256x256.size a ≤ S256x256.size a) {q : PosShare TreeShare} (x : S256x256.Idx → Elt F .bf16) {hl}
    (k : (S256x256.Idx → Elt F .bf16) → Prog (TpuEff nD τ sig (Elt F) Λ₀ .tc) α) :
    (Held e1M c q x : sProp 𝕄) ⊢ iprop((Held e1M c q x -∗ run c (k x) Q) -∗ run c (.op (.load e1M (Rect.unit (s := S256x256) ![0, 0] S256x256.size inb).toLoadRect hl) k) Q) := by
  unfold Held
  iintro ⟨%f, %hf, H⟩ Hk
  have h := wp_load (defs := defs₀ (F := F)) 𝒱₀ (c : Thread nD τ) none Set.univ (Γ := .empty) (m := e1M) (r := (Rect.unit (s := S256x256) ![0, 0] S256x256.size inb).toLoadRect) (hl := hl) (k := k) (Q := Q)
    (q := q) (f := f) (S := e1M.view.set) (by rw [View.set_whole]; exact Finset.subset_univ _)
  have hx : e1M.view.readAt (Elt F) (Rect.unit (s := S256x256) ![0, 0] S256x256.size inb).toLoadRect f = x :=
    (Memref.readAt_unit_zero (Elt F) cc0_scratch4 (funext fun a => by fin_cases a <;> rfl) _ f).trans hf
  rw [hx] at h
  iapply h $$ H
  iintro H
  iapply Hk
  iexists f; isplitr; · ipureintro; exact hf
  iexact H

theorem e2_load {α : Type} {Q : α → sProp 𝕄} (c : Dev nD) (inb : ∀ a, (![0, 0] : Off) a + S256x256.size a ≤ S256x256.size a) {q : PosShare TreeShare} (x : S256x256.Idx → Elt F .bf16) {hl}
    (k : (S256x256.Idx → Elt F .bf16) → Prog (TpuEff nD τ sig (Elt F) Λ₀ .tc) α) :
    (Held e2M c q x : sProp 𝕄) ⊢ iprop((Held e2M c q x -∗ run c (k x) Q) -∗ run c (.op (.load e2M (Rect.unit (s := S256x256) ![0, 0] S256x256.size inb).toLoadRect hl) k) Q) := by
  unfold Held
  iintro ⟨%f, %hf, H⟩ Hk
  have h := wp_load (defs := defs₀ (F := F)) 𝒱₀ (c : Thread nD τ) none Set.univ (Γ := .empty) (m := e2M) (r := (Rect.unit (s := S256x256) ![0, 0] S256x256.size inb).toLoadRect) (hl := hl) (k := k) (Q := Q)
    (q := q) (f := f) (S := e2M.view.set) (by rw [View.set_whole]; exact Finset.subset_univ _)
  have hx : e2M.view.readAt (Elt F) (Rect.unit (s := S256x256) ![0, 0] S256x256.size inb).toLoadRect f = x :=
    (Memref.readAt_unit_zero (Elt F) cc0_scratch5 (funext fun a => by fin_cases a <;> rfl) _ f).trans hf
  rw [hx] at h
  iapply h $$ H
  iintro H
  iapply Hk
  iexists f; isplitr; · ipureintro; exact hf
  iexact H

theorem e3_load {α : Type} {Q : α → sProp 𝕄} (c : Dev nD) (inb : ∀ a, (![0, 0] : Off) a + S256x512.size a ≤ S256x512.size a) {q : PosShare TreeShare} (x : S256x512.Idx → Elt F .bf16) {hl}
    (k : (S256x512.Idx → Elt F .bf16) → Prog (TpuEff nD τ sig (Elt F) Λ₀ .tc) α) :
    (Held e3M c q x : sProp 𝕄) ⊢ iprop((Held e3M c q x -∗ run c (k x) Q) -∗ run c (.op (.load e3M (Rect.unit (s := S256x512) ![0, 0] S256x512.size inb).toLoadRect hl) k) Q) := by
  unfold Held
  iintro ⟨%f, %hf, H⟩ Hk
  have h := wp_load (defs := defs₀ (F := F)) 𝒱₀ (c : Thread nD τ) none Set.univ (Γ := .empty) (m := e3M) (r := (Rect.unit (s := S256x512) ![0, 0] S256x512.size inb).toLoadRect) (hl := hl) (k := k) (Q := Q)
    (q := q) (f := f) (S := e3M.view.set) (by rw [View.set_whole]; exact Finset.subset_univ _)
  have hx : e3M.view.readAt (Elt F) (Rect.unit (s := S256x512) ![0, 0] S256x512.size inb).toLoadRect f = x :=
    (Memref.readAt_unit_zero (Elt F) cc0_scratch6 (funext fun a => by fin_cases a <;> rfl) _ f).trans hf
  rw [hx] at h
  iapply h $$ H
  iintro H
  iapply Hk
  iexists f; isplitr; · ipureintro; exact hf
  iexact H

/-! ## The copies -/

variable (K : Dev nD × Fin 34 → ℕ)

theorem acc_src (c : Dev nD) {off sz : Off} (inb : ∀ a, off a + sz a ≤ S1024x1024.size a) (hr) (q : PosShare TreeShare) (X : S1024x1024.Idx → Elt F .bf16) :
    ((accM.slice (Rect.unit (s := S1024x1024) off sz inb) hr).view.loc (c : Thread nD τ) ↦[(accM.slice (Rect.unit (s := S1024x1024) off sz inb) hr).view.set]{q} X : sProp 𝕄)
      = Acc c off sz q X := by
  rw [acc_set]; rfl

/-- A copy out of the accumulator, its share back on the send cell. -/
theorem send_acc {α : Type} {Q : α → sProp 𝕄} (c x : Dev nD) (k : Fin 16) (hx : x = peer (dir k) c) {S S' : DmaSem sig} (hS : S = sendSem k) (hS' : S' = recvSem k)
    {off sz : Off} {inb : ∀ a, off a + sz a ≤ S1024x1024.size a} {hr} {dst : Memref sig .tc .vmem ⟨2, sz⟩ .bf16} {hsc : dst.view.ref.isScScratch = false}
    {hsrc : (accM.slice (Rect.unit (s := S1024x1024) off sz inb) hr).view.WordExact} {hdst : dst.view.WordExact}
    {hsem : DmaTarget.Typed .vmem (.dma S') (.remote (Dev.tc x : Thread nD τ) dst (.dma S) hsc)}
    (p : PUnit → Prog (TpuEff nD τ sig (Elt F) Λ₀ .tc) α) {q : PosShare TreeShare} (X : S1024x1024.Idx → Elt F .bf16) (R : sProp 𝕄)
    (hN : dst.view.dmaCredit = amt k)
    (h₁ : (Acc c off sz q X : sProp 𝕄) ⊢ sendPay m k c)
    (h₂ : iprop(Held dst (peer (dir k) c) fullShare (rd off X) ∗ R) ⊢ recvPay m k (peer (dir k) c)) :
    iprop(Env m K ∗ Acc c off sz q X ∗ Free dst (peer (dir k) c) ∗ R ∗ ToSend k c ∗ Owe c (4 + k.val))
      ⊢ iprop(((Sent k c ∗ Owe c (5 + k.val)) -∗ run c (p ⟨⟩) Q)
          -∗ run c (.op (.enqueueDma (accM.slice (Rect.unit (s := S1024x1024) off sz inb) hr) (.remote (Dev.tc x : Thread nD τ) dst (.dma S) hsc) (.dma S') hsrc hdst hsem) p) Q) := by
  rw [← acc_src c inb hr] at h₁
  have h₂' : iprop(Held dst (peer (dir k) c) fullShare ((accM.slice (Rect.unit (s := S1024x1024) off sz inb) hr).view.read (Elt F) X) ∗ R) ⊢ recvPay m k (peer (dir k) c) := by
    rw [acc_read]; exact h₂
  have h := send_step m K c x k hx hS hS' (hsrc := hsrc) (hdst := hdst) (hsem := hsem) (Q := Q) p X R hN h₁ h₂'
  rw [acc_src c inb hr] at h
  exact h

/-- A copy out of the accumulator, its share staying with what lands. -/
theorem send_acc_landing {α : Type} {Q : α → sProp 𝕄} (c x : Dev nD) (k : Fin 16) (hx : x = peer (dir k) c) {S S' : DmaSem sig} (hS : S = sendSem k) (hS' : S' = recvSem k)
    {off sz : Off} {inb : ∀ a, off a + sz a ≤ S1024x1024.size a} {hr} {dst : Memref sig .tc .vmem ⟨2, sz⟩ .bf16} {hsc : dst.view.ref.isScScratch = false}
    {hsrc : (accM.slice (Rect.unit (s := S1024x1024) off sz inb) hr).view.WordExact} {hdst : dst.view.WordExact}
    {hsem : DmaTarget.Typed .vmem (.dma S') (.remote (Dev.tc x : Thread nD τ) dst (.dma S) hsc)}
    (p : PUnit → Prog (TpuEff nD τ sig (Elt F) Λ₀ .tc) α) {q : PosShare TreeShare} (X : S1024x1024.Idx → Elt F .bf16)
    (hN : dst.view.dmaCredit = amt k)
    (h₁ : (emp : sProp 𝕄) ⊢ sendPay m k c)
    (h₂ : iprop(Held dst (peer (dir k) c) fullShare (rd off X) ∗ Acc c off sz q X) ⊢ recvPay m k (peer (dir k) c)) :
    iprop(Env m K ∗ Acc c off sz q X ∗ Free dst (peer (dir k) c) ∗ ToSend k c ∗ Owe c (4 + k.val))
      ⊢ iprop(((Sent k c ∗ Owe c (5 + k.val)) -∗ run c (p ⟨⟩) Q)
          -∗ run c (.op (.enqueueDma (accM.slice (Rect.unit (s := S1024x1024) off sz inb) hr) (.remote (Dev.tc x : Thread nD τ) dst (.dma S) hsc) (.dma S') hsrc hdst hsem) p) Q) := by
  have h₂' : iprop(Held dst (peer (dir k) c) fullShare ((accM.slice (Rect.unit (s := S1024x1024) off sz inb) hr).view.read (Elt F) X)
      ∗ ((accM.slice (Rect.unit (s := S1024x1024) off sz inb) hr).view.loc (c : Thread nD τ) ↦[(accM.slice (Rect.unit (s := S1024x1024) off sz inb) hr).view.set]{q} X)) ⊢ recvPay m k (peer (dir k) c) := by
    rw [acc_src, acc_read]; exact h₂
  have h := send_step_landing m K c x k hx hS hS' (hsrc := hsrc) (hdst := hdst) (hsem := hsem) (Q := Q) p (q := q) X hN h₁ h₂'
  rw [acc_src c inb hr] at h
  exact h

/-- A copy out of what is held in a landing buffer. -/
theorem send_held {α : Type} {Q : α → sProp 𝕄} (c x : Dev nD) (k : Fin 16) (hx : x = peer (dir k) c) {S S' : DmaSem sig} (hS : S = sendSem k) (hS' : S' = recvSem k)
    {s : Shape} {e : EltTy} {src dst : Memref sig .tc .vmem s e} {hsc : dst.view.ref.isScScratch = false} {hsrc : src.view.WordExact} {hdst : dst.view.WordExact}
    {hsem : DmaTarget.Typed .vmem (.dma S') (.remote (Dev.tc x : Thread nD τ) dst (.dma S) hsc)}
    (p : PUnit → Prog (TpuEff nD τ sig (Elt F) Λ₀ .tc) α) {q : PosShare TreeShare} (v : s.Idx → Elt F e)
    (hN : dst.view.dmaCredit = amt k)
    (h₁ : (Held src c q v : sProp 𝕄) ⊢ sendPay m k c)
    (h₂ : (Held dst (peer (dir k) c) fullShare v : sProp 𝕄) ⊢ recvPay m k (peer (dir k) c)) :
    iprop(Env m K ∗ Held src c q v ∗ Free dst (peer (dir k) c) ∗ ToSend k c ∗ Owe c (4 + k.val))
      ⊢ iprop(((Sent k c ∗ Owe c (5 + k.val)) -∗ run c (p ⟨⟩) Q)
          -∗ run c (.op (.enqueueDma src (.remote (Dev.tc x : Thread nD τ) dst (.dma S) hsc) (.dma S') hsrc hdst hsem) p) Q) := by
  iintro ⟨#HE, Hs, Hd, HT, HO⟩
  unfold Held at h₁ h₂ ⊢
  icases Hs with ⟨%fs, %hfs, Hs⟩
  have h1' : (src.view.loc (c : Thread nD τ) ↦[src.view.set]{q} fs : sProp 𝕄) ⊢ sendPay m k c := by
    refine Idealize.SL.BI.BIBase.Entails.trans ?_ h₁
    iintro H; iexists fs; isplitr; · ipureintro; exact hfs
    iexact H
  subst hfs
  iapply (send_step m K c x k hx hS hS' p (q := q) fs iprop(emp) hN h1'
    (by unfold Held; exact Idealize.SL.BI.BIBase.Entails.trans (by iintro ⟨H, -⟩; iexact H) h₂)) $$ [Hs Hd HT HO]
  isplitr; · iexact HE
  isplitl [Hs]; · iexact Hs
  isplitl [Hd]; · iexact Hd
  isplitr; · iempintro
  isplitl [HT] <;> iassumption

end Cert.KernelIdeal.Ring

end
-- ==== Proof.Ring.Places.lean ====
/- Where each rectangle lies: which are the same, which make up a third, and what the values of the run are on them. -/
module

public import proofs.«01_k».proof.Proof.Ring.Memory

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## Equal places -/

theorem off7_0 : ∀ c : Dev nD, k0_off7 c 0#32 = k0_off5 c 1#32 := by decide +kernel
theorem off7_1 : ∀ c : Dev nD, k0_off7 c 1#32 = k0_off5 c 2#32 := by decide +kernel
theorem off7_2 : ∀ c : Dev nD, k0_off7 c 2#32 = k0_off17 c := by decide +kernel
theorem off8_0 : ∀ c : Dev nD, k0_off8 c 0#32 = k0_off6 c 1#32 := by decide +kernel
theorem off8_1 : ∀ c : Dev nD, k0_off8 c 1#32 = k0_off6 c 2#32 := by decide +kernel
theorem off8_2 : ∀ c : Dev nD, k0_off8 c 2#32 = k0_off18 c := by decide +kernel
theorem off5_back0 : ∀ c : Dev nD, k0_off5 (ccw c) 0#32 = k0_off7 c 0#32 := by decide +kernel
theorem off5_back1 : ∀ c : Dev nD, k0_off5 (ccw c) 1#32 = k0_off7 c 1#32 := by decide +kernel
theorem off5_back2 : ∀ c : Dev nD, k0_off5 (ccw c) 2#32 = k0_off7 c 2#32 := by decide +kernel
theorem off6_back0 : ∀ c : Dev nD, k0_off6 (cw c) 0#32 = k0_off8 c 0#32 := by decide +kernel
theorem off6_back1 : ∀ c : Dev nD, k0_off6 (cw c) 1#32 = k0_off8 c 1#32 := by decide +kernel
theorem off6_back2 : ∀ c : Dev nD, k0_off6 (cw c) 2#32 = k0_off8 c 2#32 := by decide +kernel
theorem off9_p1 : ∀ c : Dev nD, k0_off9 (p1 c) = k0_off10 c := by decide +kernel
theorem off11_p2 : ∀ c : Dev nD, k0_off11 (p2 c) = k0_off12 c := by decide +kernel
theorem off13_p2 : ∀ c : Dev nD, k0_off13 (p2 c) = k0_off14 c := by decide +kernel
theorem off15_p1 : ∀ c : Dev nD, k0_off15 (p1 c) = k0_off16 c := by decide +kernel
theorem off13_12 : ∀ c : Dev nD, k0_off13 c = k0_off12 c := by decide +kernel
theorem off14_11 : ∀ c : Dev nD, k0_off14 c = k0_off11 c := by decide +kernel
theorem off15_10 : ∀ c : Dev nD, k0_off15 c = k0_off10 c := by decide +kernel
theorem off16_9 : ∀ c : Dev nD, k0_off16 c = k0_off9 c := by decide +kernel
theorem off17_1 : ∀ c : Dev nD, k0_off17 (ccw c) = k0_off19 c 0#32 := by decide +kernel
theorem off17_2 : ∀ c : Dev nD, k0_off17 (ccw (ccw c)) = k0_off19 c 1#32 := by decide +kernel
theorem off17_3 : ∀ c : Dev nD, k0_off17 (ccw (ccw (ccw c))) = k0_off19 c 2#32 := by decide +kernel
theorem off18_1 : ∀ c : Dev nD, k0_off18 (cw c) = k0_off20 c 0#32 := by decide +kernel
theorem off18_2 : ∀ c : Dev nD, k0_off18 (cw (cw c)) = k0_off20 c 1#32 := by decide +kernel
theorem off18_3 : ∀ c : Dev nD, k0_off18 (cw (cw (cw c))) = k0_off20 c 2#32 := by decide +kernel
theorem off19_5 : ∀ c : Dev nD, k0_off19 c 0#32 = k0_off5 c 0#32 ∧ k0_off19 c 1#32 = k0_off5 c 1#32 ∧ k0_off19 c 2#32 = k0_off5 c 2#32 := by decide +kernel
theorem off20_6 : ∀ c : Dev nD, k0_off20 c 0#32 = k0_off6 c 0#32 ∧ k0_off20 c 1#32 = k0_off6 c 1#32 ∧ k0_off20 c 2#32 = k0_off6 c 2#32 := by decide +kernel

/-! ## Two side by side make a third -/

/-- Two rectangles of the same rows, one right of the other. -/
theorem parts_cols {o s o₁ s₁ o₂ s₂ : Off}
    (h : o 0 = o₁ 0 ∧ o 0 = o₂ 0 ∧ s 0 = s₁ 0 ∧ s 0 = s₂ 0 ∧ s 1 = s₁ 1 + s₂ 1 ∧ (o₁ 1 = o 1 ∧ o₂ 1 = o 1 + s₁ 1 ∨ o₂ 1 = o 1 ∧ o₁ 1 = o 1 + s₂ 1)) :
    Parts o s o₁ s₁ o₂ s₂ where
  union := by
    ext i
    rw [Finset.mem_union, mem_box, mem_box, mem_box]
    omega
  disj := by
    rw [Finset.disjoint_left]
    intro i
    rw [mem_box, mem_box]
    omega

theorem half_0 (c : Dev nD) : Parts (k0_off2 c) sz4 (k0_off5 c 0#32) sz2 (k0_off8 c 1#32) sz2 := parts_cols (by revert c; decide +kernel)
theorem half_2 (c : Dev nD) : Parts (k0_off4 c 2#32) sz4 (k0_off7 c 1#32) sz2 (k0_off6 c 0#32) sz2 := parts_cols (by revert c; decide +kernel)
theorem half_3 (c : Dev nD) : Parts (k0_off4 c 3#32) sz4 (k0_off7 c 0#32) sz2 (k0_off8 c 0#32) sz2 := parts_cols (by revert c; decide +kernel)
theorem half_1 (c : Dev nD) : Parts (k0_off4 c 1#32) sz4 (k0_off7 c 2#32) sz2 (k0_off8 c 2#32) sz2 := parts_cols (by revert c; decide +kernel)
theorem half_1' (c : Dev nD) : Parts (k0_off4 c 1#32) sz4 (k0_off17 c) sz2 (k0_off18 c) sz2 := parts_cols (by revert c; decide +kernel)
theorem half_p (c : Dev nD) : Parts (k0_off4 c 1#32) sz4 (k0_off9 c) sz2 (k0_off10 c) sz2 := parts_cols (by revert c; decide +kernel)
theorem half_p' (c : Dev nD) : Parts (k0_off4 c 1#32) sz4 (k0_off15 c) sz2 (k0_off16 c) sz2 := parts_cols (by revert c; decide +kernel)
theorem quarter (c : Dev nD) : Parts (k0_off10 c) sz2 (k0_off11 c) sz1 (k0_off12 c) sz1 := parts_cols (by revert c; decide +kernel)
theorem quarter' (c : Dev nD) : Parts (k0_off15 c) sz2 (k0_off13 c) sz1 (k0_off14 c) sz1 := parts_cols (by revert c; decide +kernel)
theorem half_0' (c : Dev nD) : Parts (k0_off2 c) sz4 (k0_off19 c 0#32) sz2 (k0_off20 c 2#32) sz2 := parts_cols (by revert c; decide +kernel)
theorem half_2' (c : Dev nD) : Parts (k0_off4 c 2#32) sz4 (k0_off19 c 2#32) sz2 (k0_off20 c 0#32) sz2 := parts_cols (by revert c; decide +kernel)
theorem half_3' (c : Dev nD) : Parts (k0_off4 c 3#32) sz4 (k0_off19 c 1#32) sz2 (k0_off20 c 1#32) sz2 := parts_cols (by revert c; decide +kernel)

/-! ## The four row blocks make the whole -/

theorem mem_row {o : Off} (h : o 1 = 0) (i : S1024x1024.Idx) : i ∈ box o sz4 ↔ o 0 ≤ (i 0).val ∧ (i 0).val < o 0 + 256 := by
  have h1 : (i 1).val < 1024 := (i 1).isLt
  have e0 : sz4 0 = 256 := rfl
  have e1 : sz4 1 = 1024 := rfl
  rw [mem_box, h, e0, e1]
  omega

theorem rows_places : ∀ c : Dev nD, (k0_off2 c 1 = 0 ∧ k0_off4 c 2#32 1 = 0 ∧ k0_off4 c 3#32 1 = 0 ∧ k0_off4 c 1#32 1 = 0)
    ∧ k0_off2 c 0 = 256 * (c.val % 4) ∧ k0_off4 c 2#32 0 = 256 * ((c.val + 2) % 4) ∧ k0_off4 c 3#32 0 = 256 * ((c.val + 3) % 4) ∧ k0_off4 c 1#32 0 = 256 * ((c.val + 1) % 4) := by
  decide +kernel

theorem rows_union (c : Dev nD) :
    (Finset.univ : Finset S1024x1024.Idx) = box (k0_off2 c) sz4 ∪ (box (k0_off4 c 2#32) sz4 ∪ (box (k0_off4 c 3#32) sz4 ∪ box (k0_off4 c 1#32) sz4)) := by
  obtain ⟨⟨z0, z2, z3, z1⟩, h0, h2, h3, h1⟩ := rows_places c
  ext i
  have hi : (i 0).val < 1024 := (i 0).isLt
  rw [Finset.mem_union, Finset.mem_union, Finset.mem_union, mem_row z0, mem_row z1, mem_row z2, mem_row z3, h0, h1, h2, h3]
  simp only [Finset.mem_univ, true_iff]
  omega
theorem rows_disj1 (c : Dev nD) : Disjoint (box (k0_off2 c) sz4) (box (k0_off4 c 2#32) sz4 ∪ (box (k0_off4 c 3#32) sz4 ∪ box (k0_off4 c 1#32) sz4)) := by
  obtain ⟨⟨z0, z2, z3, z1⟩, h0, h2, h3, h1⟩ := rows_places c
  rw [Finset.disjoint_left]; intro i
  rw [Finset.mem_union, Finset.mem_union, mem_row z0, mem_row z1, mem_row z2, mem_row z3, h0, h1, h2, h3]
  omega
theorem rows_disj2 (c : Dev nD) : Disjoint (box (k0_off4 c 2#32) sz4) (box (k0_off4 c 3#32) sz4 ∪ box (k0_off4 c 1#32) sz4) := by
  obtain ⟨⟨z0, z2, z3, z1⟩, h0, h2, h3, h1⟩ := rows_places c
  rw [Finset.disjoint_left]; intro i
  rw [Finset.mem_union, mem_row z1, mem_row z2, mem_row z3, h1, h2, h3]
  omega
theorem rows_disj3 (c : Dev nD) : Disjoint (box (k0_off4 c 3#32) sz4) (box (k0_off4 c 1#32) sz4) := by
  obtain ⟨⟨z0, z2, z3, z1⟩, h0, h2, h3, h1⟩ := rows_places c
  rw [Finset.disjoint_left]; intro i
  rw [mem_row z1, mem_row z3, h1, h3]
  omega

theorem acc_rows (c : Dev nD) (X : S1024x1024.Idx → Elt F .bf16) :
    ((accM : Memref sig .tc .vmem S1024x1024 .bf16).view.loc (c : Thread nD τ) ↦[Finset.univ]{fullShare} X : sProp 𝕄)
      = iprop(Acc c (k0_off2 c) sz4 fullShare X ∗ Acc c (k0_off4 c 2#32) sz4 fullShare X ∗ Acc c (k0_off4 c 3#32) sz4 fullShare X ∗ Acc c (k0_off4 c 1#32) sz4 fullShare X) := by
  rw [rows_union c, Entails.antisymm (pointsTo_union (rows_disj1 c)).1 (pointsTo_union (rows_disj1 c)).2,
    Entails.antisymm (pointsTo_union (rows_disj2 c)).1 (pointsTo_union (rows_disj2 c)).2,
    Entails.antisymm (pointsTo_union (rows_disj3 c)).1 (pointsTo_union (rows_disj3 c)).2]
  rfl
theorem out_rows (c : Dev nD) (X : S1024x1024.Idx → Elt F .f32) :
    ((outM : Memref sig .tc .vmem S1024x1024 .f32).view.loc (c : Thread nD τ) ↦[Finset.univ]{fullShare} X : sProp 𝕄)
      = iprop(Out c (k0_off2 c) sz4 X ∗ Out c (k0_off4 c 2#32) sz4 X ∗ Out c (k0_off4 c 3#32) sz4 X ∗ Out c (k0_off4 c 1#32) sz4 X) := by
  rw [rows_union c, Entails.antisymm (pointsTo_union (rows_disj1 c)).1 (pointsTo_union (rows_disj1 c)).2,
    Entails.antisymm (pointsTo_union (rows_disj2 c)).1 (pointsTo_union (rows_disj2 c)).2,
    Entails.antisymm (pointsTo_union (rows_disj3 c)).1 (pointsTo_union (rows_disj3 c)).2]
  rfl

/-- A set of the accumulator's elements, at any contents. -/
def Any (c : Dev nD) (I : Finset S1024x1024.Idx) : sProp 𝕄 :=
  iprop(∃ X : S1024x1024.Idx → Elt F .bf16, (accM : Memref sig .tc .vmem S1024x1024 .bf16).view.loc (c : Thread nD τ) ↦[I]{fullShare} X)

theorem acc_any (c : Dev nD) (o s : Off) (X : S1024x1024.Idx → Elt F .bf16) : (Acc c o s fullShare X : sProp 𝕄) ⊢ Any c (box o s) := by
  unfold Acc Any; iintro H; iexists X; iexact H
theorem any_join (c : Dev nD) {I J : Finset S1024x1024.Idx} (hd : Disjoint I J) : iprop(Any (F := F) c I ∗ Any c J) ⊢ Any c (I ∪ J) := by
  unfold Any
  iintro ⟨⟨%f, Hf⟩, %g, Hg⟩
  ihave H := (pointsTo_join (ℓ := (accM : Memref sig .tc .vmem S1024x1024 .bf16).view.loc (c : Thread nD τ)) (q := fullShare) (f := f) (g := g) hd) $$ [Hf Hg]
  · isplitl [Hf] <;> iassumption
  iexists _; iexact H

theorem any_parts {o s o₁ s₁ o₂ s₂ : Off} (h : Parts o s o₁ s₁ o₂ s₂) (c : Dev nD) (X Y : S1024x1024.Idx → Elt F .bf16) :
    iprop(Acc c o₁ s₁ fullShare X ∗ Acc c o₂ s₂ fullShare Y) ⊢ Any c (box o s) := by
  iintro ⟨H1, H2⟩
  rw [h.union]
  iapply (any_join c h.disj)
  isplitl [H1]
  · iapply (acc_any c o₁ s₁ X); iexact H1
  · iapply (acc_any c o₂ s₂ Y); iexact H2

theorem any_rows (c : Dev nD) :
    iprop(Any (F := F) c (box (k0_off2 c) sz4) ∗ Any c (box (k0_off4 c 2#32) sz4) ∗ Any c (box (k0_off4 c 3#32) sz4) ∗ Any c (box (k0_off4 c 1#32) sz4)) ⊢ Any c Finset.univ := by
  rw [rows_union c]
  iintro ⟨H1, H2, H3, H4⟩
  iapply (any_join c (rows_disj1 c))
  isplitl [H1]; · iexact H1
  iapply (any_join c (rows_disj2 c))
  isplitl [H2]; · iexact H2
  iapply (any_join c (rows_disj3 c))
  isplitl [H3] <;> iassumption

/-! ## The slots of a ring buffer -/

theorem slots_cover (i : S3x256x512.Idx) :
    i ∈ (Rect.unit (s := S3x256x512) ![0, 0, 0] S1x256x512.size inb_S3x256x512_S1x256x512_0_0_0).set
        ∪ ((Rect.unit (s := S3x256x512) ![1, 0, 0] S1x256x512.size inb_S3x256x512_S1x256x512_1_0_0).set
          ∪ (Rect.unit (s := S3x256x512) ![2, 0, 0] S1x256x512.size inb_S3x256x512_S1x256x512_2_0_0).set) := by
  have h0 : (i 0).val < 3 := (i 0).isLt
  have h1 : (i 1).val < 256 := (i 1).isLt
  have h2 : (i 2).val < 512 := (i 2).isLt
  rw [Finset.mem_union, Finset.mem_union, Rect.mem_set_unit, Rect.mem_set_unit, Rect.mem_set_unit]
  have key : ∀ k : ℕ, (i 0).val = k → ∀ a : Fin 3, (![k, 0, 0] : Fin 3 → ℕ) a ≤ (i a).val ∧ (i a).val < (![k, 0, 0] : Fin 3 → ℕ) a + S1x256x512.size a := by
    intro k hk a
    match a with
    | ⟨0, _⟩ => exact ⟨hk ▸ le_refl _, (show (i 0).val < k + 1 by omega)⟩
    | ⟨1, _⟩ => exact ⟨Nat.zero_le _, (show (i 1).val < 0 + 256 by omega)⟩
    | ⟨2, _⟩ => exact ⟨Nat.zero_le _, (show (i 2).val < 0 + 512 by omega)⟩
  rcases (by omega : (i 0).val = 0 ∨ (i 0).val = 1 ∨ (i 0).val = 2) with h | h | h
  · exact Or.inl (key 0 h)
  · exact Or.inr (Or.inl (key 1 h))
  · exact Or.inr (Or.inr (key 2 h))

theorem slot_at {k : ℕ} {inb} {i : S3x256x512.Idx} (h : i ∈ (Rect.unit (s := S3x256x512) ![k, 0, 0] S1x256x512.size inb).set) : (i 0).val = k := by
  rw [Rect.mem_set_unit] at h
  have h1 : k ≤ (i 0).val := (h 0).1
  have h2 : (i 0).val < k + 1 := (h 0).2
  omega

section Slots
variable (M : Memref sig .tc .vmem S3x256x512 .bf16)

theorem slot_set {k : ℕ} (inb : ∀ a, (![k, 0, 0] : Fin 3 → ℕ) a + S1x256x512.size a ≤ S3x256x512.size a) (hr) :
    ((M.slice (Rect.unit (s := S3x256x512) ![k, 0, 0] S1x256x512.size inb) hr).squeeze S256x512 squeezes_S1x256x512_S256x512).view.set
      = (Rect.unit (s := S3x256x512) ![k, 0, 0] S1x256x512.size inb).set.map M.view.emb :=
  (View.set_reshape (v := M.view.slice (Rect.unit (s := S3x256x512) ![k, 0, 0] S1x256x512.size inb)) squeezes_S1x256x512_S256x512.numel_eq).trans (View.set_slice _ _)

theorem slots_union : M.view.set = (slot0 M).view.set ∪ ((slot1 M).view.set ∪ (slot2 M).view.set) := by
  rw [slot_set, slot_set, slot_set, ← Finset.map_union, ← Finset.map_union]
  exact congrArg (Finset.map M.view.emb) (Finset.ext fun i => ⟨fun _ => slots_cover i, fun _ => Finset.mem_univ i⟩)
theorem slots_disj1 : Disjoint (slot0 M).view.set ((slot1 M).view.set ∪ (slot2 M).view.set) := by
  rw [slot_set, slot_set, slot_set, ← Finset.map_union, Finset.disjoint_map, Finset.disjoint_left]
  intro i h h'
  rcases Finset.mem_union.mp h' with h' | h' <;> [have := slot_at h'; have := slot_at h'] <;> have := slot_at h <;> omega
theorem slots_disj2 : Disjoint (slot1 M).view.set (slot2 M).view.set := by
  rw [slot_set, slot_set, Finset.disjoint_map, Finset.disjoint_left]
  intro i h h'
  have := slot_at h'; have := slot_at h; omega

theorem slots_split (c : Dev nD) : (Free (F := F) M c : sProp 𝕄) ⊢ iprop(Free (slot0 M) c ∗ Free (slot1 M) c ∗ Free (slot2 M) c) := by
  unfold Free
  iintro ⟨%f, H⟩
  ihave H := (Entails.of_eq (congrArg (fun S => (M.view.loc (c : Thread nD τ) ↦[S]{fullShare} f : sProp 𝕄)) (slots_union M))) $$ H
  ihave H := (pointsTo_union (ℓ := M.view.loc (c : Thread nD τ)) (q := fullShare) (f := f) (slots_disj1 M)).1 $$ H
  icases H with ⟨H0, H⟩
  ihave H := (pointsTo_union (ℓ := M.view.loc (c : Thread nD τ)) (q := fullShare) (f := f) (slots_disj2 M)).1 $$ H
  icases H with ⟨H1, H2⟩
  isplitl [H0]; · iexists f; iexact H0
  isplitl [H1]; · iexists f; iexact H1
  iexists f; iexact H2

theorem slots_join (c : Dev nD) : iprop(Free (F := F) (slot0 M) c ∗ Free (slot1 M) c ∗ Free (slot2 M) c) ⊢ Free M c := by
  unfold Free
  iintro ⟨⟨%f, H0⟩, ⟨%g, H1⟩, %h, H2⟩
  ihave H := (pointsTo_join (ℓ := M.view.loc (c : Thread nD τ)) (q := fullShare) (f := g) (g := h) (slots_disj2 M)) $$ [H1 H2]
  · isplitl [H1] <;> iassumption
  ihave H := (pointsTo_join (ℓ := M.view.loc (c : Thread nD τ)) (q := fullShare) (f := f) (slots_disj1 M)) $$ [H0 H]
  · isplitl [H0] <;> iassumption
  iexists _
  rw [slots_union M]
  iexact H

end Slots

theorem Held_join {s : Shape} {e : EltTy} (M : Memref sig .tc .vmem s e) (c : Dev nD) (x y : s.Idx → Elt F e) :
    iprop(Held M c fullShare.left x ∗ Held M c fullShare.right y) ⊢ (Free M c : sProp 𝕄) := by
  unfold Held Free
  iintro ⟨⟨%f, -, H⟩, %g, -, H'⟩
  icombine H H' gives %hag
  ihave H' := (Entails.of_eq (pointsTo_congr fun i hi => (hag i (Finset.mem_inter.mpr ⟨hi, hi⟩)).1.symm)) $$ H'
  iexists f
  iapply (pointsTo_share (PosShare.mem_left_op_right fullShare)).2
  isplitl [H] <;> iassumption

/-! ## The values on the places -/

theorem vF0 (c : Dev nD) : vF m 0 (ccw c) = rd (k0_off7 c 0#32) (fwd m 0 (ccw c)) := by unfold vF; rw [← off5_back0]
theorem vF1 (c : Dev nD) : vF m 1 (ccw c) = rd (k0_off7 c 1#32) (fwd m 1 (ccw c)) := by unfold vF; rw [← off5_back1]
theorem vF2 (c : Dev nD) : vF m 2 (ccw c) = rd (k0_off7 c 2#32) (fwd m 2 (ccw c)) := by unfold vF; rw [← off5_back2]
theorem vB0 (c : Dev nD) : vB m 0 (cw c) = rd (k0_off8 c 0#32) (bwd m 0 (cw c)) := by unfold vB; rw [← off6_back0]
theorem vB1 (c : Dev nD) : vB m 1 (cw c) = rd (k0_off8 c 1#32) (bwd m 1 (cw c)) := by unfold vB; rw [← off6_back1]
theorem vB2 (c : Dev nD) : vB m 2 (cw c) = rd (k0_off8 c 2#32) (bwd m 2 (cw c)) := by unfold vB; rw [← off6_back2]
theorem v6_eq (c : Dev nD) : v6 m (p1 c) = rd (k0_off10 c) (ringX m (p1 c)) := by unfold v6; rw [off9_p1]
theorem v7_eq (c : Dev nD) : v7 m (p2 c) = rd (k0_off12 c) (pairX m (p2 c)) := by unfold v7; rw [off11_p2]

theorem own_p1 (c : Dev nD) : own (p1 c) = own c := by
  have h : (p1 c).val % 4 = c.val % 4 := by revert c; decide
  funext i; apply Fin.ext; simp only [own, h]
theorem own_p2 (c : Dev nD) : own (p2 c) = own c := by
  have h : (p2 c).val % 4 = c.val % 4 := by revert c; decide
  funext i; apply Fin.ext; simp only [own, h]
theorem fin_p1 (c : Dev nD) : fin m (p1 c) = fin m c := by unfold fin; rw [own_p1]
theorem fin_p2 (c : Dev nD) : fin m (p2 c) = fin m c := by unfold fin; rw [own_p2]
theorem v8_eq (c : Dev nD) : v8 m (p2 c) = rd (k0_off14 c) (fin m c) := by unfold v8; rw [off13_p2, fin_p2]
theorem v9_eq (c : Dev nD) : v9 m (p1 c) = rd (k0_off16 c) (fin m c) := by unfold v9; rw [off15_p1, fin_p1]

theorem half_cols : ∀ c : Dev nD, k0_off7 c 2#32 1 = 0 ∧ k0_off8 c 2#32 1 = 512 := by decide +kernel
theorem ring_left (c : Dev nD) : ∀ i ∈ box (k0_off7 c 2#32) sz2, fwd m 3 c i = ringX m c i := by
  intro i hi
  have h := (mem_box.mp hi).2
  rw [(half_cols c).1] at h
  have e : sz2 1 = 512 := rfl
  rw [e] at h
  unfold ringX; rw [if_pos (by omega)]
theorem ring_right (c : Dev nD) : ∀ i ∈ box (k0_off8 c 2#32) sz2, bwd m 3 c i = ringX m c i := by
  intro i hi
  have h := (mem_box.mp hi).2
  rw [(half_cols c).2] at h
  unfold ringX; rw [if_neg (by omega)]

theorem quad_col : ∀ c : Dev nD, k0_off12 c 1 = 512 * ((c.val / 4) % 2) + 256 * ((c.val / 8) % 2) := by decide +kernel
theorem quad_fin (c : Dev nD) : ∀ i ∈ box (k0_off12 c) sz1, quadX m c i = fin m c i := by
  intro i hi
  have h := (mem_box.mp hi).2
  have e : sz1 1 = 256 := rfl
  rw [quad_col, e] at h
  have hc : c.val < 16 := c.isLt
  have hi1 : (i 1).val < 1024 := (i 1).isLt
  have hx : (c.val / 4) % 2 = 0 ∨ (c.val / 4) % 2 = 1 := by omega
  have hy : (c.val / 8) % 2 = 0 ∨ (c.val / 8) % 2 = 1 := by omega
  have hn : 8 * (((i 1).val % 512) / 256) + 4 * ((i 1).val / 512) + c.val % 4 = c.val := by
    rcases hx with hx | hx <;> rcases hy with hy | hy <;> rw [hx, hy] at h <;> omega
  unfold fin
  rw [show own c i = c from Fin.ext (show 8 * (((i 1).val % 512) / 256) + 4 * ((i 1).val / 512) + c.val % 4 = c.val from hn)]

/-- On one row block the result is one device's. -/
theorem res_row (c x : Dev nD) {o s : Off} (ho : ∃ r, o 0 = 256 * r ∧ s 0 = 256 ∧ 4 * (c.val / 4) + (r + 3) % 4 = x.val) :
    ∀ i ∈ box o s, (fun i => FloatOps.extf .f32 bitsLt_bf16_f32 (fin m x i)) i = res m c i := by
  intro i hi
  obtain ⟨r, h0, hs, hx⟩ := ho
  have h := (mem_box.mp hi).1
  rw [h0, hs] at h
  unfold res
  rw [show rowDev c i = x from Fin.ext (show 4 * (c.val / 4) + ((i 0).val / 256 + 3) % 4 = x.val by
    rw [show (i 0).val / 256 = r by omega]; exact hx)]

theorem row_places : ∀ c : Dev nD, (k0_off4 c 1#32 0 = 256 * (k0_off4 c 1#32 0 / 256) ∧ 4 * (c.val / 4) + (k0_off4 c 1#32 0 / 256 + 3) % 4 = c.val)
    ∧ (k0_off19 c 0#32 0 = 256 * (k0_off19 c 0#32 0 / 256) ∧ 4 * (c.val / 4) + (k0_off19 c 0#32 0 / 256 + 3) % 4 = (ccw c).val)
    ∧ (k0_off19 c 1#32 0 = 256 * (k0_off19 c 1#32 0 / 256) ∧ 4 * (c.val / 4) + (k0_off19 c 1#32 0 / 256 + 3) % 4 = (ccw (ccw c)).val)
    ∧ (k0_off19 c 2#32 0 = 256 * (k0_off19 c 2#32 0 / 256) ∧ 4 * (c.val / 4) + (k0_off19 c 2#32 0 / 256 + 3) % 4 = (ccw (ccw (ccw c))).val)
    ∧ (k0_off20 c 0#32 0 = 256 * (k0_off20 c 0#32 0 / 256) ∧ 4 * (c.val / 4) + (k0_off20 c 0#32 0 / 256 + 3) % 4 = (cw c).val)
    ∧ (k0_off20 c 1#32 0 = 256 * (k0_off20 c 1#32 0 / 256) ∧ 4 * (c.val / 4) + (k0_off20 c 1#32 0 / 256 + 3) % 4 = (cw (cw c)).val)
    ∧ (k0_off20 c 2#32 0 = 256 * (k0_off20 c 2#32 0 / 256) ∧ 4 * (c.val / 4) + (k0_off20 c 2#32 0 / 256 + 3) % 4 = (cw (cw (cw c))).val) := by
  decide +kernel

theorem res_own (c : Dev nD) : ∀ i ∈ box (k0_off4 c 1#32) sz4, (fun i => FloatOps.extf .f32 bitsLt_bf16_f32 (fin m c i)) i = res m c i :=
  res_row m c c ⟨_, (row_places c).1.1, rfl, (row_places c).1.2⟩
theorem res_f0 (c : Dev nD) : ∀ i ∈ box (k0_off19 c 0#32) sz2, (fun i => FloatOps.extf .f32 bitsLt_bf16_f32 (fin m (ccw c) i)) i = res m c i :=
  res_row m c _ ⟨_, (row_places c).2.1.1, rfl, (row_places c).2.1.2⟩
theorem res_f1 (c : Dev nD) : ∀ i ∈ box (k0_off19 c 1#32) sz2, (fun i => FloatOps.extf .f32 bitsLt_bf16_f32 (fin m (ccw (ccw c)) i)) i = res m c i :=
  res_row m c _ ⟨_, (row_places c).2.2.1.1, rfl, (row_places c).2.2.1.2⟩
theorem res_f2 (c : Dev nD) : ∀ i ∈ box (k0_off19 c 2#32) sz2, (fun i => FloatOps.extf .f32 bitsLt_bf16_f32 (fin m (ccw (ccw (ccw c))) i)) i = res m c i :=
  res_row m c _ ⟨_, (row_places c).2.2.2.1.1, rfl, (row_places c).2.2.2.1.2⟩
theorem res_g0 (c : Dev nD) : ∀ i ∈ box (k0_off20 c 0#32) sz2, (fun i => FloatOps.extf .f32 bitsLt_bf16_f32 (fin m (cw c) i)) i = res m c i :=
  res_row m c _ ⟨_, (row_places c).2.2.2.2.1.1, rfl, (row_places c).2.2.2.2.1.2⟩
theorem res_g1 (c : Dev nD) : ∀ i ∈ box (k0_off20 c 1#32) sz2, (fun i => FloatOps.extf .f32 bitsLt_bf16_f32 (fin m (cw (cw c)) i)) i = res m c i :=
  res_row m c _ ⟨_, (row_places c).2.2.2.2.2.1.1, rfl, (row_places c).2.2.2.2.2.1.2⟩
theorem res_g2 (c : Dev nD) : ∀ i ∈ box (k0_off20 c 2#32) sz2, (fun i => FloatOps.extf .f32 bitsLt_bf16_f32 (fin m (cw (cw (cw c))) i)) i = res m c i :=
  res_row m c _ ⟨_, (row_places c).2.2.2.2.2.2.1, rfl, (row_places c).2.2.2.2.2.2.2⟩

/-! ## The row blocks, for the products -/

theorem off1_at : ∀ c : Dev nD, k0_off1 c = ![256 * (c.val % 4), 0] := by decide +kernel
theorem off2_at : ∀ c : Dev nD, k0_off2 c = ![256 * (c.val % 4), 0] := by decide +kernel
theorem off3_at1 : ∀ c : Dev nD, k0_off3 c 1#32 = ![256 * ((c.val + 1) % 4), 0] := by decide +kernel
theorem off3_at2 : ∀ c : Dev nD, k0_off3 c 2#32 = ![256 * ((c.val + 2) % 4), 0] := by decide +kernel
theorem off3_at3 : ∀ c : Dev nD, k0_off3 c 3#32 = ![256 * ((c.val + 3) % 4), 0] := by decide +kernel
theorem off4_at1 : ∀ c : Dev nD, k0_off4 c 1#32 = ![256 * ((c.val + 1) % 4), 0] := by decide +kernel
theorem off4_at2 : ∀ c : Dev nD, k0_off4 c 2#32 = ![256 * ((c.val + 2) % 4), 0] := by decide +kernel
theorem off4_at3 : ∀ c : Dev nD, k0_off4 c 3#32 = ![256 * ((c.val + 3) % 4), 0] := by decide +kernel
theorem mod4_lt (n : ℕ) : n % 4 < 4 := Nat.mod_lt _ (by decide)

theorem v10_1 (c : Dev nD) : v10 m (ccw c) = rd (k0_off19 c 0#32) (fin m (ccw c)) := by unfold v10; rw [off17_1]
theorem v10_2 (c : Dev nD) : v10 m (ccw (ccw c)) = rd (k0_off19 c 1#32) (fin m (ccw (ccw c))) := by unfold v10; rw [off17_2]
theorem v10_3 (c : Dev nD) : v10 m (ccw (ccw (ccw c))) = rd (k0_off19 c 2#32) (fin m (ccw (ccw (ccw c)))) := by unfold v10; rw [off17_3]
theorem v11_1 (c : Dev nD) : v11 m (cw c) = rd (k0_off20 c 0#32) (fin m (cw c)) := by unfold v11; rw [off18_1]
theorem v11_2 (c : Dev nD) : v11 m (cw (cw c)) = rd (k0_off20 c 1#32) (fin m (cw (cw c))) := by unfold v11; rw [off18_2]
theorem v11_3 (c : Dev nD) : v11 m (cw (cw (cw c))) = rd (k0_off20 c 2#32) (fin m (cw (cw (cw c)))) := by unfold v11; rw [off18_3]

/-! ## What each landing is to its receiver -/

theorem land0 (c : Dev nD) : iprop(Held (slot0 aM) (cw c) fullShare (vF m 0 c) ∗ emp) ⊢ recvPay m 0 (cw c) := by
  show _ ⊢ Held (slot0 aM) (cw c) fullShare (vF m 0 (ccw (cw c))); rw [ccw_cw]; iintro ⟨H, -⟩; iexact H
theorem land1 (c : Dev nD) : iprop(Held (slot0 bM) (ccw c) fullShare (vB m 0 c) ∗ emp) ⊢ recvPay m 1 (ccw c) := by
  show _ ⊢ Held (slot0 bM) (ccw c) fullShare (vB m 0 (cw (ccw c))); rw [cw_ccw]; iintro ⟨H, -⟩; iexact H
theorem land2 (c : Dev nD) : iprop(Held (slot1 aM) (cw c) fullShare (vF m 1 c) ∗ emp) ⊢ recvPay m 2 (cw c) := by
  show _ ⊢ Held (slot1 aM) (cw c) fullShare (vF m 1 (ccw (cw c))); rw [ccw_cw]; iintro ⟨H, -⟩; iexact H
theorem land3 (c : Dev nD) : iprop(Held (slot1 bM) (ccw c) fullShare (vB m 1 c) ∗ emp) ⊢ recvPay m 3 (ccw c) := by
  show _ ⊢ Held (slot1 bM) (ccw c) fullShare (vB m 1 (cw (ccw c))); rw [cw_ccw]; iintro ⟨H, -⟩; iexact H
theorem land4 (c : Dev nD) : iprop(Held (slot2 aM) (cw c) fullShare (vF m 2 c) ∗ emp) ⊢ recvPay m 4 (cw c) := by
  show _ ⊢ Held (slot2 aM) (cw c) fullShare (vF m 2 (ccw (cw c))); rw [ccw_cw]; iintro ⟨H, -⟩; iexact H
theorem land5 (c : Dev nD) : iprop(Held (slot2 bM) (ccw c) fullShare (vB m 2 c) ∗ emp) ⊢ recvPay m 5 (ccw c) := by
  show _ ⊢ Held (slot2 bM) (ccw c) fullShare (vB m 2 (cw (ccw c))); rw [cw_ccw]; iintro ⟨H, -⟩; iexact H
theorem land6 (c : Dev nD) : iprop(Held e0M (p1 c) fullShare (v6 m c) ∗ Acc c (k0_off9 c) sz2 fullShare (ringX m c)) ⊢ recvPay m 6 (p1 c) := by
  show _ ⊢ iprop(Held e0M (p1 c) fullShare (v6 m (p1 (p1 c))) ∗ Acc (p1 (p1 c)) (k0_off9 (p1 (p1 c))) sz2 fullShare (ringX m (p1 (p1 c))))
  rw [p1_p1]
theorem land7 (c : Dev nD) : iprop(Held e1M (p2 c) fullShare (v7 m c) ∗ Acc c (k0_off11 c) sz1 fullShare (pairX m c)) ⊢ recvPay m 7 (p2 c) := by
  show _ ⊢ iprop(Held e1M (p2 c) fullShare (v7 m (p2 (p2 c))) ∗ Acc (p2 (p2 c)) (k0_off11 (p2 (p2 c))) sz1 fullShare (pairX m (p2 (p2 c))))
  rw [p2_p2]
theorem land8 (c : Dev nD) : iprop(Held e2M (p2 c) fullShare (v8 m c) ∗ Acc (p2 c) (k0_off11 (p2 c)) sz1 fullShare (pairX m (p2 c))) ⊢ recvPay m 8 (p2 c) := by
  show _ ⊢ iprop(Held e2M (p2 c) fullShare (v8 m (p2 (p2 c))) ∗ Acc (p2 c) (k0_off11 (p2 c)) sz1 fullShare (pairX m (p2 c)))
  rw [p2_p2]
theorem land9 (c : Dev nD) : iprop(Held e3M (p1 c) fullShare (v9 m c) ∗ Acc (p1 c) (k0_off9 (p1 c)) sz2 fullShare (ringX m (p1 c))) ⊢ recvPay m 9 (p1 c) := by
  show _ ⊢ iprop(Held e3M (p1 c) fullShare (v9 m (p1 (p1 c))) ∗ Acc (p1 c) (k0_off9 (p1 c)) sz2 fullShare (ringX m (p1 c)))
  rw [p1_p1]
theorem land10 (c : Dev nD) : iprop(Held (slot0 fM) (cw c) fullShare (v10 m c) ∗ emp) ⊢ recvPay m 10 (cw c) := by
  show _ ⊢ Held (slot0 fM) (cw c) fullShare (v10 m (ccw (cw c))); rw [ccw_cw]; iintro ⟨H, -⟩; iexact H
theorem land11 (c : Dev nD) : iprop(Held (slot0 gM) (ccw c) fullShare (v11 m c) ∗ emp) ⊢ recvPay m 11 (ccw c) := by
  show _ ⊢ Held (slot0 gM) (ccw c) fullShare (v11 m (cw (ccw c))); rw [cw_ccw]; iintro ⟨H, -⟩; iexact H
theorem land12 (c : Dev nD) : (Held (slot1 fM) (cw c) fullShare (v10 m (ccw c)) : sProp 𝕄) ⊢ recvPay m 12 (cw c) := by
  show _ ⊢ Held (slot1 fM) (cw c) fullShare (v10 m (ccw (ccw (cw c)))); rw [ccw_cw]
theorem land13 (c : Dev nD) : (Held (slot1 gM) (ccw c) fullShare (v11 m (cw c)) : sProp 𝕄) ⊢ recvPay m 13 (ccw c) := by
  show _ ⊢ Held (slot1 gM) (ccw c) fullShare (v11 m (cw (cw (ccw c)))); rw [cw_ccw]
theorem land14 (c : Dev nD) : (Held (slot2 fM) (cw c) fullShare (v10 m (ccw (ccw c))) : sProp 𝕄) ⊢ recvPay m 14 (cw c) := by
  show _ ⊢ Held (slot2 fM) (cw c) fullShare (v10 m (ccw (ccw (ccw (cw c))))); rw [ccw_cw]
theorem land15 (c : Dev nD) : (Held (slot2 gM) (ccw c) fullShare (v11 m (cw (cw c))) : sProp 𝕄) ⊢ recvPay m 15 (ccw c) := by
  show _ ⊢ Held (slot2 gM) (ccw c) fullShare (v11 m (cw (cw (cw (ccw c))))); rw [cw_ccw]

/-! ## Signals, named by direction -/

/-- The right to signal the device of direction `d` on its barrier semaphore `s`. -/
abbrev Tok (s : Sem sig) (d : Fin 4) (c : Dev nD) : sProp 𝕄 := dutyTok ER ((peer d c : Thread nD τ), .reg s) 0 d

variable (K : Dev nD × Fin 34 → ℕ)

theorem credit_wide {off : Off} (inb) (hr) : (accM.slice (Rect.unit (s := S1024x1024) off S256x512.size inb) hr).view.dmaCredit = e0M.view.dmaCredit := by
  have h : (⟨2, S256x512.size⟩ : Shape) = S256x512 := rfl
  show RefSig.tileCredit ⟨2, S256x512.size⟩ .bf16 = RefSig.tileCredit S256x512 .bf16
  rw [h]
theorem credit_narrow {off : Off} (inb) (hr) : (accM.slice (Rect.unit (s := S1024x1024) off S256x256.size inb) hr).view.dmaCredit = e1M.view.dmaCredit := by
  have h : (⟨2, S256x256.size⟩ : Shape) = S256x256 := rfl
  show RefSig.tileCredit ⟨2, S256x256.size⟩ .bf16 = RefSig.tileCredit S256x256 .bf16
  rw [h]

theorem run_ret {α : Type} {Q : α → sProp 𝕄} (c : Dev nD) (a : α) : Q a ⊢ run c (.ret a) Q := by
  unfold run
  rw [wp_ret]
  iintro H; imodintro; iexact H

theorem signal_bar {α : Type} {Q : α → sProp 𝕄} (c x : Dev nD) (d : Fin 4) (n : ℕ) (hx : x = peer d c) (hn : n < 24)
    (hd : owedDir n = d) (hs : owedSem n = .reg 0) (ha : owedAmt n = 1) (k : PUnit → Prog (TpuEff nD τ sig (Elt F) Λ₀ .tc) α) {w : BitVec 32} (hw : w = 1#32) :
    iprop(Env m K ∗ Owe c n ∗ Tok 0 d c ∗ barPay (peer d c) d)
      ⊢ iprop((Owe c (n + 1) -∗ run c (k ⟨⟩) Q) -∗ run c (.op (.semSignal (x : Thread nD τ) 0 w.toNat) k) Q) := by
  subst hx
  exact signal_step m K c _ d n rfl 0 csem_0 hn hd hs ha k hw
theorem signal_end {α : Type} {Q : α → sProp 𝕄} (c x : Dev nD) (d : Fin 4) (n : ℕ) (hx : x = peer d c) (hn : n < 24)
    (hd : owedDir n = d) (hs : owedSem n = .reg 1) (ha : owedAmt n = 1) (k : PUnit → Prog (TpuEff nD τ sig (Elt F) Λ₀ .tc) α) {w : BitVec 32} (hw : w = 1#32) :
    iprop(Env m K ∗ Owe c n ∗ Tok 1 d c)
      ⊢ iprop((Owe c (n + 1) -∗ run c (k ⟨⟩) Q) -∗ run c (.op (.semSignal (x : Thread nD τ) 1 w.toNat) k) Q) := by
  subst hx
  iintro ⟨#HE, HO, HT⟩
  iapply (signal_step m K c _ d n rfl 1 csem_1 hn hd hs ha k hw)
  isplitr; · iexact HE
  isplitl [HO]; · iexact HO
  isplitl [HT]; · iexact HT
  rw [payload_end]; iempintro

end Cert.KernelIdeal.Ring

end
-- ==== Proof.Ring.PartsA.lean ====
/- The kernel's parts up to the end of both rings. -/
module

public import proofs.«01_k».proof.Proof.Ring.Places

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : Dev nD × Fin 34 → ℕ)

local notation "𝕄" => MT nD τ sig Unit (Elt F) ℕ UU ℕ

/-- The device greets its four neighbours, handing each the rooms they will write, takes the rooms its neighbours hand it, and reads its first block of rows. -/
theorem part2 {Q : _ → sProp 𝕄} (c : Dev nD) (v19 : BitVec 32) (v20 : BitVec 32) (v24 : BitVec 32) (v28 : BitVec 32) (v29 : BitVec 32) (v30 : BitVec 32) (x12 : BitVec 32) (v32 : BitVec 32) (v34 : BitVec 32) (v36 : BitVec 32) :
    iprop(Env m K
        ∗ Owe c 0
        ∗ Tok 0 0 c
        ∗ barPay (cw c) 0
        ∗ Tok 0 1 c
        ∗ barPay (ccw c) 1
        ∗ Tok 0 2 c
        ∗ barPay (p1 c) 2
        ∗ Tok 0 3 c
        ∗ barPay (p2 c) 3
        ∗ ToMeet 0 c
        ∗ Dy m c
        ∗ Wt m c)
      ⊢ iprop((∀ (w : BitVec 32), ((Owe c 4
          ∗ semVal (barCell c) 0
          ∗ (barPay c 0 ∗ barPay c 1 ∗ barPay c 2 ∗ barPay c 3)
          ∗ Dy m c
          ∗ Wt m c) -∗ Q ⟨w, k0_pay1 (rows (c.val % 4) (dyS m c)) (wS m c), 256#32⟩))
        -∗ run c (k0_part2 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v19 v20 v24 v28 v29 v30 x12 v32 v34 v36) Q) := by
  rw [k0_part2_eq_skeleton]
  unfold k0_part2_skel
  simp only [semSignalWord, semWaitWord, Prog.lift, Prog.bind_op, Prog.bind_ret, Prog.pure_eq_ret]
  iintro ⟨#HE, HO, HT0, HB0, HT1, HB1, HT2, HB2, HT3, HB3, HM, HD, HW⟩ Hk
  iapply (signal_bar m K c _ 0 0 (dev1_eq c) (by decide) rfl rfl rfl _ rfl) $$ [HO HT0 HB0]
  · isplitr; · iexact HE
    isplitl [HO]; · iexact HO
    isplitl [HT0]; · iexact HT0
    iexact HB0
  iintro HO
  iapply (signal_bar m K c _ 1 1 (dev2_eq c) (by decide) rfl rfl rfl _ rfl) $$ [HO HT1 HB1]
  · isplitr; · iexact HE
    isplitl [HO]; · iexact HO
    isplitl [HT1]; · iexact HT1
    iexact HB1
  iintro HO
  iapply (signal_bar m K c _ 2 2 (dev3_eq c) (by decide) rfl rfl rfl _ rfl) $$ [HO HT2 HB2]
  · isplitr; · iexact HE
    isplitl [HO]; · iexact HO
    isplitl [HT2]; · iexact HT2
    iexact HB2
  iintro HO
  iapply (signal_bar m K c _ 3 3 (dev4_eq c) (by decide) rfl rfl rfl _ rfl) $$ [HO HT3 HB3]
  · isplitr; · iexact HE
    isplitl [HO]; · iexact HO
    isplitl [HT3]; · iexact HT3
    iexact HB3
  iintro HO
  iapply (meet_step m K c 4 0 csem_0 (by decide) _ rfl) $$ [HO HM]
  · isplitr; · iexact HE
    isplitl [HO]; · iexact HO
    iexact HM
  iintro ⟨HO, HZ, HP⟩
  ihave HP := (Entails.of_eq (rest_bar m c)) $$ HP
  iapply (dy_load m c (c.val % 4) (off1_at c) _ _) $$ HD
  iintro HD
  iapply (wt_load m c _ _) $$ HW
  iintro HW
  iapply (run_ret c _)
  iapply Hk
  isplitl [HO]; · iexact HO
  isplitl [HZ]; · iexact HZ
  isplitl [HP]; · iexact HP
  isplitl [HD]; · iexact HD
  iexact HW

/-- The first two blocks of rows are multiplied. -/
theorem part3 {Q : _ → sProp 𝕄} (c : Dev nD) (X : S1024x1024.Idx → Elt F .bf16) (v20 : BitVec 32) (v24 : BitVec 32) (x35 : BitVec 32) :
    iprop(Env m K
        ∗ Dy m c
        ∗ Wt m c
        ∗ Acc c (k0_off2 c) sz4 fullShare (X)
        ∗ Acc c (k0_off4 c 2#32) sz4 fullShare (X))
      ⊢ iprop((((Dy m c
          ∗ Wt m c
          ∗ Acc c (k0_off2 c) sz4 fullShare (G m c)
          ∗ Acc c (k0_off4 c 2#32) sz4 fullShare (G m c)) -∗ Q ⟨⟩))
        -∗ run c (k0_part3 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 (k0_pay1 (rows (c.val % 4) (dyS m c)) (wS m c)) x35) Q) := by
  rw [k0_part3_eq_skeleton]
  unfold k0_part3_skel
  simp only [semSignalWord, semWaitWord, Prog.lift, Prog.bind_op, Prog.bind_ret, Prog.pure_eq_ret]
  iintro ⟨#HE, HD, HW, HA, HB⟩ Hk
  iapply (acc_load c _ (X) _) $$ HA
  iintro HA
  iapply (acc_store c _ (X) (G m c) ((pay2_eq _).trans (pay1_rows m (off2_at c) (mod4_lt _) c)) _) $$ HA
  iintro HA
  iapply (dy_load m c ((c.val + 2) % 4) (off3_at2 c) _ _) $$ HD
  iintro HD
  iapply (wt_load m c _ _) $$ HW
  iintro HW
  iapply (acc_load c _ (X) _) $$ HB
  iintro HB
  iapply (acc_store c _ (X) (G m c) ((pay3_eq _ _).trans (pay1_rows m (off4_at2 c) (mod4_lt _) c)) _) $$ HB
  iintro HB
  iapply (run_ret c _)
  iapply Hk
  isplitl [HD]; · iexact HD
  isplitl [HW]; · iexact HW
  isplitl [HA]; · iexact HA
  iexact HB

/-- Both rings start, and the third block of rows is multiplied. -/
theorem part4 {Q : _ → sProp 𝕄} (c : Dev nD) (X : S1024x1024.Idx → Elt F .bf16) (v20 : BitVec 32) (v28 : BitVec 32) :
    iprop(Env m K
        ∗ Acc c (k0_off5 c 0#32) sz2 fullShare (fwd m 0 c)
        ∗ Free (slot0 aM) (cw c)
        ∗ ToSend 0 c
        ∗ Acc c (k0_off6 c 0#32) sz2 fullShare (bwd m 0 c)
        ∗ Free (slot0 bM) (ccw c)
        ∗ ToSend 1 c
        ∗ Owe c 4
        ∗ Dy m c
        ∗ Wt m c
        ∗ Acc c (k0_off4 c 3#32) sz4 fullShare (X))
      ⊢ iprop((∀ (w : BitVec 32), ((Sent 0 c
          ∗ Sent 1 c
          ∗ Owe c 6
          ∗ Dy m c
          ∗ Wt m c
          ∗ Acc c (k0_off4 c 3#32) sz4 fullShare (G m c)) -∗ Q ⟨w, rows ((c.val + 1) % 4) (dyS m c)⟩))
        -∗ run c (k0_part4 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v28) Q) := by
  rw [k0_part4_eq_skeleton]
  unfold k0_part4_skel
  simp only [semSignalWord, semWaitWord, Prog.lift, Prog.bind_op, Prog.bind_ret, Prog.pure_eq_ret]
  iintro ⟨#HE, HA, HL0, HS0, HB, HL1, HS1, HO, HD, HW, HC⟩ Hk
  iapply (send_acc (dst := slot0 aM) m K c _ 0 (dev5_eq c) rfl rfl _ (fwd m 0 c) (iprop(emp)) rfl (Entails.of_eq rfl) (land0 m c)) $$ [HA HL0 HS0 HO]
  · isplitr; · iexact HE
    isplitl [HA]; · iexact HA
    isplitl [HL0]; · iexact HL0
    isplitr; · iempintro
    isplitl [HS0]; · iexact HS0
    iexact HO
  iintro ⟨HS0, HO⟩
  iapply (send_acc (dst := slot0 bM) m K c _ 1 (dev6_eq c) rfl rfl _ (bwd m 0 c) (iprop(emp)) rfl (Entails.of_eq rfl) (land1 m c)) $$ [HB HL1 HS1 HO]
  · isplitr; · iexact HE
    isplitl [HB]; · iexact HB
    isplitl [HL1]; · iexact HL1
    isplitr; · iempintro
    isplitl [HS1]; · iexact HS1
    iexact HO
  iintro ⟨HS1, HO⟩
  iapply (dy_load m c ((c.val + 3) % 4) (off3_at3 c) _ _) $$ HD
  iintro HD
  iapply (wt_load m c _ _) $$ HW
  iintro HW
  iapply (acc_load c _ (X) _) $$ HC
  iintro HC
  iapply (acc_store c _ (X) (G m c) ((pay4_eq _ _).trans (pay1_rows m (off4_at3 c) (mod4_lt _) c)) _) $$ HC
  iintro HC
  iapply (dy_load m c ((c.val + 1) % 4) (off3_at1 c) _ _) $$ HD
  iintro HD
  iapply (run_ret c _)
  iapply Hk
  isplitl [HS0]; · iexact HS0
  isplitl [HS1]; · iexact HS1
  isplitl [HO]; · iexact HO
  isplitl [HD]; · iexact HD
  isplitl [HW]; · iexact HW
  iexact HC

/-- The last block of rows is multiplied and the first piece from behind arrives. -/
theorem part5 {Q : _ → sProp 𝕄} (c : Dev nD) (X : S1024x1024.Idx → Elt F .bf16) (v20 : BitVec 32) (v24 : BitVec 32) (v28 : BitVec 32) (v130 : BitVec 32) :
    iprop(Env m K
        ∗ Wt m c
        ∗ Acc c (k0_off4 c 1#32) sz4 fullShare (X)
        ∗ ToRecv 0 c
        ∗ Owe c 6)
      ⊢ iprop((∀ (w w1 : BitVec 32), ((Wt m c
          ∗ Acc c (k0_off4 c 1#32) sz4 fullShare (G m c)
          ∗ Held (slot0 aM) c fullShare (vF m 0 (ccw c))
          ∗ semVal (recvCell c 0) 0
          ∗ Owe c 6) -∗ Q ⟨w, w1⟩))
        -∗ run c (k0_part5 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v28 v130 (rows ((c.val + 1) % 4) (dyS m c))) Q) := by
  rw [k0_part5_eq_skeleton]
  unfold k0_part5_skel
  simp only [semSignalWord, semWaitWord, Prog.lift, Prog.bind_op, Prog.bind_ret, Prog.pure_eq_ret]
  iintro ⟨#HE, HW, HA, HR0, HO⟩ Hk
  iapply (wt_load m c _ _) $$ HW
  iintro HW
  iapply (acc_load c _ (X) _) $$ HA
  iintro HA
  iapply (acc_store c _ (X) (G m c) ((pay5_eq _ _).trans (pay1_rows m (off4_at1 c) (mod4_lt _) c)) _) $$ HA
  iintro HA
  iapply (recv_step (dst := slot0 aM) m K c 0 6 (by decide) rfl rfl _) $$ [HR0 HO]
  · isplitr; · iexact HE
    isplitl [HR0]; · iexact HR0
    iexact HO
  iintro ⟨HV0, HZ0, HO⟩
  ihave HV0 := (Entails.of_eq (show recvPay m 0 c = Held (slot0 aM) c fullShare (vF m 0 (ccw c)) from rfl)) $$ HV0
  iapply (run_ret c _)
  iapply Hk
  isplitl [HW]; · iexact HW
  isplitl [HA]; · iexact HA
  isplitl [HV0]; · iexact HV0
  isplitl [HZ0]; · iexact HZ0
  iexact HO

/-- The first piece from ahead arrives, and both are added in. -/
theorem part6 {Q : _ → sProp 𝕄} (c : Dev nD) (v20 : BitVec 32) (v147 : BitVec 32) (v150 : BitVec 32) :
    iprop(Env m K
        ∗ ToRecv 1 c
        ∗ Owe c 6
        ∗ Acc c (k0_off7 c 0#32) sz2 fullShare (G m c)
        ∗ Held (slot0 aM) c fullShare (vF m 0 (ccw c))
        ∗ Acc c (k0_off8 c 0#32) sz2 fullShare (G m c))
      ⊢ iprop((∀ (w : BitVec 32), ((Owe c 6
          ∗ Acc c (k0_off7 c 0#32) sz2 fullShare (fwd m 1 c)
          ∗ Held (slot0 aM) c fullShare (vF m 0 (ccw c))
          ∗ Acc c (k0_off8 c 0#32) sz2 fullShare (bwd m 1 c)
          ∗ Held (slot0 bM) c fullShare (vB m 0 (cw c))
          ∗ semVal (recvCell c 1) 0) -∗ Q w))
        -∗ run c (k0_part6 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v147 v150) Q) := by
  rw [k0_part6_eq_skeleton]
  unfold k0_part6_skel
  simp only [semSignalWord, semWaitWord, Prog.lift, Prog.bind_op, Prog.bind_ret, Prog.pure_eq_ret]
  iintro ⟨#HE, HR1, HO, HA, HV0, HB⟩ Hk
  iapply (recv_step (dst := slot0 bM) m K c 1 6 (by decide) rfl rfl _) $$ [HR1 HO]
  · isplitr; · iexact HE
    isplitl [HR1]; · iexact HR1
    iexact HO
  iintro ⟨HV1, HZ1, HO⟩
  ihave HV1 := (Entails.of_eq (show recvPay m 1 c = Held (slot0 bM) c fullShare (vB m 0 (cw c)) from rfl)) $$ HV1
  iapply (acc_load c _ (G m c) _) $$ HA
  iintro HA
  iapply (slot_load_step c aM _ (vF m 0 (ccw c)) _) $$ HV0
  iintro %v0 %hv0 HV0
  iapply (acc_load c _ (G m c) _) $$ HA
  iintro HA
  iapply (acc_store c _ (G m c) (fwd m 1 c) (pay6_eq (fun _ => rfl) (hv0.trans (vF0 m c))) _) $$ HA
  iintro HA
  iapply (acc_load c _ (G m c) _) $$ HB
  iintro HB
  iapply (slot_load_step c bM _ (vB m 0 (cw c)) _) $$ HV1
  iintro %v1 %hv1 HV1
  iapply (acc_load c _ (G m c) _) $$ HB
  iintro HB
  iapply (acc_store c _ (G m c) (bwd m 1 c) (pay7_eq (fun _ => rfl) (hv1.trans (vB0 m c))) _) $$ HB
  iintro HB
  iapply (run_ret c _)
  iapply Hk
  isplitl [HO]; · iexact HO
  isplitl [HA]; · iexact HA
  isplitl [HV0]; · iexact HV0
  isplitl [HB]; · iexact HB
  isplitl [HV1]; · iexact HV1
  iexact HZ1

/-- The second step of both rings is sent. -/
theorem part7 {Q : _ → sProp 𝕄} (c : Dev nD) (v20 : BitVec 32) (v24 : BitVec 32) (v28 : BitVec 32) (v196 : BitVec 32) :
    iprop(Env m K
        ∗ Acc c (k0_off5 c 1#32) sz2 fullShare (fwd m 1 c)
        ∗ Free (slot1 aM) (cw c)
        ∗ ToSend 2 c
        ∗ Acc c (k0_off6 c 1#32) sz2 fullShare (bwd m 1 c)
        ∗ Free (slot1 bM) (ccw c)
        ∗ ToSend 3 c
        ∗ Owe c 6)
      ⊢ iprop((∀ (w w1 : BitVec 32), ((Sent 2 c
          ∗ Sent 3 c
          ∗ Owe c 8) -∗ Q ⟨w, w1⟩))
        -∗ run c (k0_part7 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v28 v196) Q) := by
  rw [k0_part7_eq_skeleton]
  unfold k0_part7_skel
  simp only [semSignalWord, semWaitWord, Prog.lift, Prog.bind_op, Prog.bind_ret, Prog.pure_eq_ret]
  iintro ⟨#HE, HA, HL2, HS2, HB, HL3, HS3, HO⟩ Hk
  iapply (send_acc (dst := slot1 aM) m K c _ 2 (dev7_eq c) rfl rfl _ (fwd m 1 c) (iprop(emp)) rfl (Entails.of_eq rfl) (land2 m c)) $$ [HA HL2 HS2 HO]
  · isplitr; · iexact HE
    isplitl [HA]; · iexact HA
    isplitl [HL2]; · iexact HL2
    isplitr; · iempintro
    isplitl [HS2]; · iexact HS2
    iexact HO
  iintro ⟨HS2, HO⟩
  iapply (send_acc (dst := slot1 bM) m K c _ 3 (dev8_eq c) rfl rfl _ (bwd m 1 c) (iprop(emp)) rfl (Entails.of_eq rfl) (land3 m c)) $$ [HB HL3 HS3 HO]
  · isplitr; · iexact HE
    isplitl [HB]; · iexact HB
    isplitl [HL3]; · iexact HL3
    isplitr; · iempintro
    isplitl [HS3]; · iexact HS3
    iexact HO
  iintro ⟨HS3, HO⟩
  iapply (run_ret c _)
  iapply Hk
  isplitl [HS2]; · iexact HS2
  isplitl [HS3]; · iexact HS3
  iexact HO

/-- The second pieces arrive, the one from behind is added in, the one from ahead is read. -/
theorem part8 {Q : _ → sProp 𝕄} (c : Dev nD) (v28 : BitVec 32) (v219 : BitVec 32) (v222 : BitVec 32) :
    iprop(Env m K
        ∗ ToRecv 2 c
        ∗ ToRecv 3 c
        ∗ Owe c 8
        ∗ Acc c (k0_off7 c 1#32) sz2 fullShare (G m c)
        ∗ Acc c (k0_off8 c 1#32) sz2 fullShare (G m c))
      ⊢ iprop((∀ (v : Vec F S1x256x512 .bf16), ⌜shapeCast S256x512 v shapeCasts_S1x256x512_S256x512 = vB m 1 (cw c)⌝ -∗ ∀ (w : BitVec 32), ((Owe c 8
          ∗ Acc c (k0_off7 c 1#32) sz2 fullShare (fwd m 2 c)
          ∗ Held (slot1 aM) c fullShare (vF m 1 (ccw c))
          ∗ Acc c (k0_off8 c 1#32) sz2 fullShare (G m c)
          ∗ Held (slot1 bM) c fullShare (vB m 1 (cw c))
          ∗ semVal (recvCell c 2) 0
          ∗ semVal (recvCell c 3) 0) -∗ Q ⟨k0_pay9 (rd (k0_off8 c 1#32) (G m c)) v, w⟩))
        -∗ run c (k0_part8 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v28 v219 v222) Q) := by
  rw [k0_part8_eq_skeleton]
  unfold k0_part8_skel
  simp only [semSignalWord, semWaitWord, Prog.lift, Prog.bind_op, Prog.bind_ret, Prog.pure_eq_ret]
  iintro ⟨#HE, HR2, HR3, HO, HA, HB⟩ Hk
  iapply (recv_step (dst := slot1 aM) m K c 2 8 (by decide) rfl rfl _) $$ [HR2 HO]
  · isplitr; · iexact HE
    isplitl [HR2]; · iexact HR2
    iexact HO
  iintro ⟨HV2, HZ2, HO⟩
  ihave HV2 := (Entails.of_eq (show recvPay m 2 c = Held (slot1 aM) c fullShare (vF m 1 (ccw c)) from rfl)) $$ HV2
  iapply (recv_step (dst := slot1 bM) m K c 3 8 (by decide) rfl rfl _) $$ [HR3 HO]
  · isplitr; · iexact HE
    isplitl [HR3]; · iexact HR3
    iexact HO
  iintro ⟨HV3, HZ3, HO⟩
  ihave HV3 := (Entails.of_eq (show recvPay m 3 c = Held (slot1 bM) c fullShare (vB m 1 (cw c)) from rfl)) $$ HV3
  iapply (acc_load c _ (G m c) _) $$ HA
  iintro HA
  iapply (slot_load_step c aM _ (vF m 1 (ccw c)) _) $$ HV2
  iintro %v0 %hv0 HV2
  iapply (acc_load c _ (G m c) _) $$ HA
  iintro HA
  iapply (acc_store c _ (G m c) (fwd m 2 c) (pay8_eq (fun _ => rfl) (hv0.trans (vF1 m c))) _) $$ HA
  iintro HA
  iapply (acc_load c _ (G m c) _) $$ HB
  iintro HB
  iapply (slot_load_step c bM _ (vB m 1 (cw c)) _) $$ HV3
  iintro %v1 %hv1 HV3
  iapply (run_ret c _)
  ispecialize Hk $$ %v1 %hv1
  iapply Hk
  isplitl [HO]; · iexact HO
  isplitl [HA]; · iexact HA
  isplitl [HV2]; · iexact HV2
  isplitl [HB]; · iexact HB
  isplitl [HV3]; · iexact HV3
  isplitl [HZ2]; · iexact HZ2
  iexact HZ3

/-- The second piece from ahead is added in, and the third step of both rings is sent. -/
theorem part9 {Q : _ → sProp 𝕄} (c : Dev nD) (v : Vec F S1x256x512 .bf16) (hv : shapeCast S256x512 v shapeCasts_S1x256x512_S256x512 = vB m 1 (cw c)) (v20 : BitVec 32) (v24 : BitVec 32) (v28 : BitVec 32) (v256 : BitVec 32) :
    iprop(Env m K
        ∗ Acc c (k0_off8 c 1#32) sz2 fullShare (G m c)
        ∗ Acc c (k0_off5 c 2#32) sz2 fullShare (fwd m 2 c)
        ∗ Free (slot2 aM) (cw c)
        ∗ ToSend 4 c
        ∗ Free (slot2 bM) (ccw c)
        ∗ ToSend 5 c
        ∗ Owe c 8)
      ⊢ iprop((((Sent 4 c
          ∗ Sent 5 c
          ∗ Owe c 10) -∗ Q ⟨⟩))
        -∗ run c (k0_part9 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v28 (k0_pay9 (rd (k0_off8 c 1#32) (G m c)) v) v256) Q) := by
  rw [k0_part9_eq_skeleton]
  unfold k0_part9_skel
  simp only [semSignalWord, semWaitWord, Prog.lift, Prog.bind_op, Prog.bind_ret, Prog.pure_eq_ret]
  iintro ⟨#HE, HB, HA, HL4, HS4, HL5, HS5, HO⟩ Hk
  iapply (acc_load c _ (G m c) _) $$ HB
  iintro HB
  iapply (acc_store c _ (G m c) (bwd m 2 c) (pay9_eq (fun _ => rfl) (hv.trans (vB1 m c))) _) $$ HB
  iintro HB
  rw [off8_1]
  iapply (send_acc (dst := slot2 aM) m K c _ 4 (dev9_eq c) rfl rfl _ (fwd m 2 c) (iprop(emp)) rfl (Entails.of_eq rfl) (land4 m c)) $$ [HA HL4 HS4 HO]
  · isplitr; · iexact HE
    isplitl [HA]; · iexact HA
    isplitl [HL4]; · iexact HL4
    isplitr; · iempintro
    isplitl [HS4]; · iexact HS4
    iexact HO
  iintro ⟨HS4, HO⟩
  iapply (send_acc (dst := slot2 bM) m K c _ 5 (dev10_eq c) rfl rfl _ (bwd m 2 c) (iprop(emp)) rfl (Entails.of_eq rfl) (land5 m c)) $$ [HB HL5 HS5 HO]
  · isplitr; · iexact HE
    isplitl [HB]; · iexact HB
    isplitl [HL5]; · iexact HL5
    isplitr; · iempintro
    isplitl [HS5]; · iexact HS5
    iexact HO
  iintro ⟨HS5, HO⟩
  iapply (run_ret c _)
  iapply Hk
  isplitl [HS4]; · iexact HS4
  isplitl [HS5]; · iexact HS5
  iexact HO

end Cert.KernelIdeal.Ring

end
-- ==== Proof.Ring.PartsB.lean ====
/- The kernel's parts from the partners' exchange to the finished block. -/
module

public import proofs.«01_k».proof.Proof.Ring.Places

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : Dev nD × Fin 34 → ℕ)

local notation "𝕄" => MT nD τ sig Unit (Elt F) ℕ UU ℕ

/-- The third pieces arrive, and the one from behind is read. -/
theorem part10 {Q : _ → sProp 𝕄} (c : Dev nD) (v20 : BitVec 32) (v24 : BitVec 32) (v28 : BitVec 32) :
    iprop(Env m K
        ∗ ToRecv 4 c
        ∗ ToRecv 5 c
        ∗ Owe c 10
        ∗ Acc c (k0_off7 c 2#32) sz2 fullShare (G m c))
      ⊢ iprop((∀ (v : Vec F S1x256x512 .bf16), ⌜shapeCast S256x512 v shapeCasts_S1x256x512_S256x512 = vF m 2 (ccw c)⌝ -∗ ∀ (w : BitVec 32), ((Owe c 10
          ∗ Acc c (k0_off7 c 2#32) sz2 fullShare (G m c)
          ∗ Held (slot2 aM) c fullShare (vF m 2 (ccw c))
          ∗ Held (slot2 bM) c fullShare (vB m 2 (cw c))
          ∗ semVal (recvCell c 4) 0
          ∗ semVal (recvCell c 5) 0) -∗ Q ⟨w, k0_pay11 (rd (k0_off7 c 2#32) (G m c)) v⟩))
        -∗ run c (k0_part10 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v28) Q) := by
  rw [k0_part10_eq_skeleton]
  unfold k0_part10_skel
  simp only [semSignalWord, semWaitWord, Prog.lift, Prog.bind_op, Prog.bind_ret, Prog.pure_eq_ret]
  iintro ⟨#HE, HR4, HR5, HO, HA⟩ Hk
  iapply (recv_step (dst := slot2 aM) m K c 4 10 (by decide) rfl rfl _) $$ [HR4 HO]
  · isplitr; · iexact HE
    isplitl [HR4]; · iexact HR4
    iexact HO
  iintro ⟨HV4, HZ4, HO⟩
  ihave HV4 := (Entails.of_eq (show recvPay m 4 c = Held (slot2 aM) c fullShare (vF m 2 (ccw c)) from rfl)) $$ HV4
  iapply (recv_step (dst := slot2 bM) m K c 5 10 (by decide) rfl rfl _) $$ [HR5 HO]
  · isplitr; · iexact HE
    isplitl [HR5]; · iexact HR5
    iexact HO
  iintro ⟨HV5, HZ5, HO⟩
  ihave HV5 := (Entails.of_eq (show recvPay m 5 c = Held (slot2 bM) c fullShare (vB m 2 (cw c)) from rfl)) $$ HV5
  iapply (acc_load c _ (G m c) _) $$ HA
  iintro HA
  iapply (slot_load_step c aM _ (vF m 2 (ccw c)) _) $$ HV4
  iintro %v0 %hv0 HV4
  iapply (run_ret c _)
  ispecialize Hk $$ %v0 %hv0
  iapply Hk
  isplitl [HO]; · iexact HO
  isplitl [HA]; · iexact HA
  isplitl [HV4]; · iexact HV4
  isplitl [HV5]; · iexact HV5
  isplitl [HZ4]; · iexact HZ4
  iexact HZ5

/-- Both rings finish with the block that stays; half of it goes to the first partner. -/
theorem part11 {Q : _ → sProp 𝕄} (c : Dev nD) (v : Vec F S1x256x512 .bf16) (hv : shapeCast S256x512 v shapeCasts_S1x256x512_S256x512 = vF m 2 (ccw c)) (v20 : BitVec 32) (v29 : BitVec 32) (v31 : BitVec 32) (v49 : BitVec 32) (v294 : BitVec 32) :
    iprop(Env m K
        ∗ Acc c (k0_off7 c 2#32) sz2 fullShare (G m c)
        ∗ Acc c (k0_off8 c 2#32) sz2 fullShare (G m c)
        ∗ Held (slot2 bM) c fullShare (vB m 2 (cw c))
        ∗ Free (e0M) (p1 c)
        ∗ ToSend 6 c
        ∗ Owe c 10)
      ⊢ iprop((∀ (w w1 w2 w3 w4 : BitVec 32), ((Acc c (k0_off10 c) sz2 fullShare (ringX m c)
          ∗ Held (slot2 bM) c fullShare (vB m 2 (cw c))
          ∗ Sent 6 c
          ∗ Owe c 11) -∗ Q ⟨w, w1, w2, w3, w4⟩))
        -∗ run c (k0_part11 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v29 v31 v49 v294 (k0_pay11 (rd (k0_off7 c 2#32) (G m c)) v)) Q) := by
  rw [k0_part11_eq_skeleton]
  unfold k0_part11_skel
  simp only [semSignalWord, semWaitWord, Prog.lift, Prog.bind_op, Prog.bind_ret, Prog.pure_eq_ret]
  iintro ⟨#HE, HA, HB, HV5, HL6, HS6, HO⟩ Hk
  iapply (acc_load c _ (G m c) _) $$ HA
  iintro HA
  iapply (acc_store c _ (G m c) (fwd m 3 c) (pay11_eq (fun _ => rfl) (hv.trans (vF2 m c))) _) $$ HA
  iintro HA
  iapply (acc_load c _ (G m c) _) $$ HB
  iintro HB
  iapply (slot_load_step c bM _ (vB m 2 (cw c)) _) $$ HV5
  iintro %v1 %hv1 HV5
  iapply (acc_load c _ (G m c) _) $$ HB
  iintro HB
  iapply (acc_store c _ (G m c) (bwd m 3 c) (pay13_eq (fun _ => rfl) (hv1.trans (vB2 m c))) _) $$ HB
  iintro HB
  ihave HA := (Entails.of_eq (Acc_congr (off := k0_off7 c 2#32) (sz := sz2) (ring_left m c))) $$ HA
  ihave HB := (Entails.of_eq (Acc_congr (off := k0_off8 c 2#32) (sz := sz2) (ring_right m c))) $$ HB
  ihave HA := (Entails.of_eq (Acc_split (half_1 c) c fullShare (ringX m c)).symm) $$ [HA HB]
  · isplitl [HA] <;> iassumption
  ihave HA := (Entails.of_eq (Acc_split (half_p c) c fullShare (ringX m c))) $$ HA
  icases HA with ⟨HA, HB⟩
  iapply (send_acc_landing (dst := e0M) m K c _ 6 (dev11_eq c) rfl rfl _ (ringX m c) rfl (Entails.of_eq rfl) (land6 m c)) $$ [HA HL6 HS6 HO]
  · isplitr; · iexact HE
    isplitl [HA]; · iexact HA
    isplitl [HL6]; · iexact HL6
    isplitl [HS6]; · iexact HS6
    iexact HO
  iintro ⟨HS6, HO⟩
  iapply (run_ret c _)
  iapply Hk
  isplitl [HB]; · iexact HB
  isplitl [HV5]; · iexact HV5
  isplitl [HS6]; · iexact HS6
  iexact HO

/-- The first partner's half is added in, a quarter is exchanged with the second, and the quarter kept is finished. -/
theorem part12 {Q : _ → sProp 𝕄} (c : Dev nD) (v29 : BitVec 32) (v30 : BitVec 32) (v335 : BitVec 32) (v336 : BitVec 32) (v340 : BitVec 32) :
    iprop(Env m K
        ∗ ToRecv 6 c
        ∗ Acc c (k0_off10 c) sz2 fullShare (ringX m c)
        ∗ Free (e1M) (p2 c)
        ∗ ToSend 7 c
        ∗ ToRecv 7 c
        ∗ Owe c 11)
      ⊢ iprop((((Held (e0M) c fullShare (v6 m (p1 c))
          ∗ Acc (p1 c) (k0_off9 (p1 c)) sz2 fullShare (ringX m (p1 c))
          ∗ semVal (recvCell c 6) 0
          ∗ Sent 7 c
          ∗ Held (e1M) c fullShare (v7 m (p2 c))
          ∗ Acc (p2 c) (k0_off11 (p2 c)) sz1 fullShare (pairX m (p2 c))
          ∗ semVal (recvCell c 7) 0
          ∗ Acc c (k0_off12 c) sz1 fullShare (fin m c)
          ∗ Owe c 12) -∗ Q ⟨⟩))
        -∗ run c (k0_part12 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v29 v30 v335 v336 v340) Q) := by
  rw [k0_part12_eq_skeleton]
  unfold k0_part12_skel
  simp only [semSignalWord, semWaitWord, Prog.lift, Prog.bind_op, Prog.bind_ret, Prog.pure_eq_ret]
  iintro ⟨#HE, HR6, HA, HL7, HS7, HR7, HO⟩ Hk
  iapply (recv_step (dst := e0M) m K c 6 11 (by decide) rfl rfl _) $$ [HR6 HO]
  · isplitr; · iexact HE
    isplitl [HR6]; · iexact HR6
    iexact HO
  iintro ⟨HV6, HZ6, HO⟩
  ihave HV6 := (Entails.of_eq (show recvPay m 6 c = iprop(Held (e0M) c fullShare (v6 m (p1 c)) ∗ Acc (p1 c) (k0_off9 (p1 c)) sz2 fullShare (ringX m (p1 c))) from rfl)) $$ HV6
  icases HV6 with ⟨HE0, HX6⟩
  iapply (acc_load c _ (ringX m c) _) $$ HA
  iintro HA
  iapply (e0_load c _ (v6 m (p1 c)) _) $$ HE0
  iintro HE0
  iapply (acc_load c _ (ringX m c) _) $$ HA
  iintro HA
  iapply (acc_store c _ (ringX m c) (pairX m c) (by rw [v6_eq]; exact pay14_eq (fun _ => rfl)) _) $$ HA
  iintro HA
  ihave HA := (Entails.of_eq (Acc_split (quarter c) c fullShare (pairX m c))) $$ HA
  icases HA with ⟨HB, HA⟩
  iapply (send_acc_landing (dst := e1M) m K c _ 7 (dev12_eq c) rfl rfl _ (pairX m c) rfl (Entails.of_eq rfl) (land7 m c)) $$ [HB HL7 HS7 HO]
  · isplitr; · iexact HE
    isplitl [HB]; · iexact HB
    isplitl [HL7]; · iexact HL7
    isplitl [HS7]; · iexact HS7
    iexact HO
  iintro ⟨HS7, HO⟩
  iapply (recv_step (dst := e1M) m K c 7 12 (by decide) rfl rfl _) $$ [HR7 HO]
  · isplitr; · iexact HE
    isplitl [HR7]; · iexact HR7
    iexact HO
  iintro ⟨HV7, HZ7, HO⟩
  ihave HV7 := (Entails.of_eq (show recvPay m 7 c = iprop(Held (e1M) c fullShare (v7 m (p2 c)) ∗ Acc (p2 c) (k0_off11 (p2 c)) sz1 fullShare (pairX m (p2 c))) from rfl)) $$ HV7
  icases HV7 with ⟨HE1, HX7⟩
  iapply (acc_load c _ (pairX m c) _) $$ HA
  iintro HA
  iapply (e1_load c _ (v7 m (p2 c)) _) $$ HE1
  iintro HE1
  iapply (acc_load c _ (pairX m c) _) $$ HA
  iintro HA
  iapply (acc_store c _ (pairX m c) (quadX m c) (by rw [v7_eq]; exact pay15_eq (fun _ => rfl)) _) $$ HA
  iintro HA
  ihave HA := (Entails.of_eq (Acc_congr (off := k0_off12 c) (sz := sz1) (quad_fin m c))) $$ HA
  iapply (run_ret c _)
  iapply Hk
  isplitl [HE0]; · iexact HE0
  isplitl [HX6]; · iexact HX6
  isplitl [HZ6]; · iexact HZ6
  isplitl [HS7]; · iexact HS7
  isplitl [HE1]; · iexact HE1
  isplitl [HX7]; · iexact HX7
  isplitl [HZ7]; · iexact HZ7
  isplitl [HA]; · iexact HA
  iexact HO

/-- The finished quarter and half are exchanged with the partners, so that the whole block of rows is finished. -/
theorem part13 {Q : _ → sProp 𝕄} (c : Dev nD) (v29 : BitVec 32) (v30 : BitVec 32) (v335 : BitVec 32) (v338 : BitVec 32) (v343 : BitVec 32) :
    iprop(Env m K
        ∗ Acc c (k0_off13 c) sz1 fullShare (fin m c)
        ∗ Acc (p2 c) (k0_off11 (p2 c)) sz1 fullShare (pairX m (p2 c))
        ∗ Free (e2M) (p2 c)
        ∗ ToSend 8 c
        ∗ ToRecv 8 c
        ∗ Acc (p1 c) (k0_off9 (p1 c)) sz2 fullShare (ringX m (p1 c))
        ∗ Free (e3M) (p1 c)
        ∗ ToSend 9 c
        ∗ ToRecv 9 c
        ∗ Owe c 12)
      ⊢ iprop((((Sent 8 c
          ∗ Held (e2M) c fullShare (v8 m (p2 c))
          ∗ semVal (recvCell c 8) 0
          ∗ Acc c (k0_off14 c) sz1 fullShare.left (fin m c)
          ∗ Sent 9 c
          ∗ Held (e3M) c fullShare (v9 m (p1 c))
          ∗ semVal (recvCell c 9) 0
          ∗ Acc c (k0_off16 c) sz2 fullShare.left (fin m c)
          ∗ Acc c (k0_off16 c) sz2 fullShare.right.left (fin m c)
          ∗ Acc c (k0_off4 c 1#32) sz4 fullShare.right.right (fin m c)
          ∗ Owe c 14) -∗ Q ⟨⟩))
        -∗ run c (k0_part13 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v29 v30 v335 v338 v343) Q) := by
  rw [k0_part13_eq_skeleton]
  unfold k0_part13_skel
  simp only [semSignalWord, semWaitWord, Prog.lift, Prog.bind_op, Prog.bind_ret, Prog.pure_eq_ret]
  iintro ⟨#HE, HA, HX7, HL8, HS8, HR8, HX6, HL9, HS9, HR9, HO⟩ Hk
  ihave HA := (Entails.of_eq (Acc_share c (k0_off13 c) sz1 (fullShare) (fin m c))) $$ HA
  icases HA with ⟨HAl, HAr⟩
  iapply (send_acc (dst := e2M) m K c _ 8 (dev13_eq c) rfl rfl _ (fin m c) (Acc (p2 c) (k0_off11 (p2 c)) sz1 fullShare (pairX m (p2 c))) rfl (Entails.of_eq rfl) (land8 m c)) $$ [HAl HL8 HX7 HS8 HO]
  · isplitr; · iexact HE
    isplitl [HAl]; · iexact HAl
    isplitl [HL8]; · iexact HL8
    isplitl [HX7]; · iexact HX7
    isplitl [HS8]; · iexact HS8
    iexact HO
  iintro ⟨HS8, HO⟩
  iapply (recv_step (dst := e2M) m K c 8 13 (by decide) rfl rfl _) $$ [HR8 HO]
  · isplitr; · iexact HE
    isplitl [HR8]; · iexact HR8
    iexact HO
  iintro ⟨HV8, HZ8, HO⟩
  ihave HV8 := (Entails.of_eq (show recvPay m 8 c = iprop(Held (e2M) c fullShare (v8 m (p2 c)) ∗ Acc c (k0_off11 c) sz1 fullShare (pairX m c)) from rfl)) $$ HV8
  icases HV8 with ⟨HE2, HB⟩
  iapply (e2_load c _ (v8 m (p2 c)) _) $$ HE2
  iintro HE2
  ihave HB := (Entails.of_eq (show Acc c (k0_off11 c) sz1 fullShare (pairX m c) = Acc c (k0_off14 c) sz1 fullShare (pairX m c) by rw [off14_11])) $$ HB
  iapply (acc_load c _ (pairX m c) _) $$ HB
  iintro HB
  iapply (acc_store c _ (pairX m c) (fin m c) ((pay16_eq _).trans (v8_eq m c)) _) $$ HB
  iintro HB
  ihave HB := (Entails.of_eq (Acc_share c (k0_off14 c) sz1 (fullShare) (fin m c))) $$ HB
  icases HB with ⟨HBl, HBr⟩
  ihave HA := (Entails.of_eq (Acc_split (quarter' c) c fullShare.right (fin m c)).symm) $$ [HAr HBr]
  · isplitl [HAr] <;> iassumption
  ihave HA := (Entails.of_eq (Acc_share c (k0_off15 c) sz2 (fullShare.right) (fin m c))) $$ HA
  icases HA with ⟨HAl, HAr⟩
  iapply (send_acc (dst := e3M) m K c _ 9 (dev14_eq c) rfl rfl _ (fin m c) (Acc (p1 c) (k0_off9 (p1 c)) sz2 fullShare (ringX m (p1 c))) rfl (Entails.of_eq rfl) (land9 m c)) $$ [HAl HL9 HX6 HS9 HO]
  · isplitr; · iexact HE
    isplitl [HAl]; · iexact HAl
    isplitl [HL9]; · iexact HL9
    isplitl [HX6]; · iexact HX6
    isplitl [HS9]; · iexact HS9
    iexact HO
  iintro ⟨HS9, HO⟩
  iapply (recv_step (dst := e3M) m K c 9 14 (by decide) rfl rfl _) $$ [HR9 HO]
  · isplitr; · iexact HE
    isplitl [HR9]; · iexact HR9
    iexact HO
  iintro ⟨HV9, HZ9, HO⟩
  ihave HV9 := (Entails.of_eq (show recvPay m 9 c = iprop(Held (e3M) c fullShare (v9 m (p1 c)) ∗ Acc c (k0_off9 c) sz2 fullShare (ringX m c)) from rfl)) $$ HV9
  icases HV9 with ⟨HE3, HC⟩
  iapply (e3_load c _ (v9 m (p1 c)) _) $$ HE3
  iintro HE3
  ihave HC := (Entails.of_eq (show Acc c (k0_off9 c) sz2 fullShare (ringX m c) = Acc c (k0_off16 c) sz2 fullShare (ringX m c) by rw [off16_9])) $$ HC
  iapply (acc_load c _ (ringX m c) _) $$ HC
  iintro HC
  iapply (acc_store c _ (ringX m c) (fin m c) ((pay17_eq _).trans (v9_eq m c)) _) $$ HC
  iintro HC
  ihave HC := (Entails.of_eq (Acc_share c (k0_off16 c) sz2 (fullShare) (fin m c))) $$ HC
  icases HC with ⟨HCl, HCr⟩
  ihave HCr := (Entails.of_eq (Acc_share c (k0_off16 c) sz2 (fullShare.right) (fin m c))) $$ HCr
  icases HCr with ⟨HCrl, HCrr⟩
  ihave HA := (Entails.of_eq (Acc_split (half_p' c) c fullShare.right.right (fin m c)).symm) $$ [HAr HCrr]
  · isplitl [HAr] <;> iassumption
  iapply (run_ret c _)
  iapply Hk
  isplitl [HS8]; · iexact HS8
  isplitl [HE2]; · iexact HE2
  isplitl [HZ8]; · iexact HZ8
  isplitl [HBl]; · iexact HBl
  isplitl [HS9]; · iexact HS9
  isplitl [HE3]; · iexact HE3
  isplitl [HZ9]; · iexact HZ9
  isplitl [HCl]; · iexact HCl
  isplitl [HCrl]; · iexact HCrl
  isplitl [HA]; · iexact HA
  iexact HO

/-- The finished block of rows is written out and sent both ways. -/
theorem part14 {Q : _ → sProp 𝕄} (c : Dev nD) (X : S1024x1024.Idx → Elt F .f32) (v20 : BitVec 32) (v24 : BitVec 32) (v28 : BitVec 32) (v335 : BitVec 32) :
    iprop(Env m K
        ∗ Acc c (k0_off4 c 1#32) sz4 fullShare.right.right (fin m c)
        ∗ Out c (k0_off4 c 1#32) sz4 (X)
        ∗ Free (slot0 fM) (cw c)
        ∗ ToSend 10 c
        ∗ Free (slot0 gM) (ccw c)
        ∗ ToSend 11 c
        ∗ Owe c 14)
      ⊢ iprop((∀ (w w1 w2 : BitVec 32), ((Out c (k0_off4 c 1#32) sz4 (res m c)
          ∗ Sent 10 c
          ∗ Sent 11 c
          ∗ Owe c 16) -∗ Q ⟨w, w1, w2, 0#32⟩))
        -∗ run c (k0_part14 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v28 v335) Q) := by
  rw [k0_part14_eq_skeleton]
  unfold k0_part14_skel
  simp only [semSignalWord, semWaitWord, Prog.lift, Prog.bind_op, Prog.bind_ret, Prog.pure_eq_ret]
  iintro ⟨#HE, HA, HQ, HL10, HS10, HL11, HS11, HO⟩ Hk
  iapply (acc_load c _ (fin m c) _) $$ HA
  iintro HA
  iapply (out_load c _ (X) _) $$ HQ
  iintro HQ %_
  iapply (out_store c _ (X) (fun i => FloatOps.extf .f32 bitsLt_bf16_f32 (fin m c i)) (pay18_eq) _) $$ HQ
  iintro HQ
  ihave HQ := (Entails.of_eq (Out_congr (off := k0_off4 c 1#32) (sz := sz4) (res_own m c))) $$ HQ
  ihave HA := (Entails.of_eq (Acc_split (half_1' c) c fullShare.right.right (fin m c))) $$ HA
  icases HA with ⟨HA, HB⟩
  iapply (send_acc (dst := slot0 fM) m K c _ 10 (dev15_eq c) rfl rfl _ (fin m c) (iprop(emp)) rfl (Entails.of_eq rfl) (land10 m c)) $$ [HA HL10 HS10 HO]
  · isplitr; · iexact HE
    isplitl [HA]; · iexact HA
    isplitl [HL10]; · iexact HL10
    isplitr; · iempintro
    isplitl [HS10]; · iexact HS10
    iexact HO
  iintro ⟨HS10, HO⟩
  iapply (send_acc (dst := slot0 gM) m K c _ 11 (dev16_eq c) rfl rfl _ (fin m c) (iprop(emp)) rfl (Entails.of_eq rfl) (land11 m c)) $$ [HB HL11 HS11 HO]
  · isplitr; · iexact HE
    isplitl [HB]; · iexact HB
    isplitl [HL11]; · iexact HL11
    isplitr; · iempintro
    isplitl [HS11]; · iexact HS11
    iexact HO
  iintro ⟨HS11, HO⟩
  iapply (run_ret c _)
  iapply Hk
  isplitl [HQ]; · iexact HQ
  isplitl [HS10]; · iexact HS10
  isplitl [HS11]; · iexact HS11
  iexact HO

end Cert.KernelIdeal.Ring

end
-- ==== Proof.Ring.PartsC.lean ====
/- The kernel's parts that carry the finished pieces round and wait for the device's own transfers. -/
module

public import proofs.«01_k».proof.Proof.Ring.Places

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : Dev nD × Fin 34 → ℕ)

local notation "𝕄" => MT nD τ sig Unit (Elt F) ℕ UU ℕ

/-- The first finished pieces from both sides arrive, and the one from behind goes on. -/
theorem part15 {Q : _ → sProp 𝕄} (c : Dev nD) (v24 : BitVec 32) (v28 : BitVec 32) (v452 : BitVec 32) (x0 : BitVec 32) :
    iprop(Env m K
        ∗ ToRecv 10 c
        ∗ ToRecv 11 c
        ∗ Free (slot1 fM) (cw c)
        ∗ ToSend 12 c
        ∗ Owe c 16)
      ⊢ iprop((((Held (slot0 fM) c fullShare.right (v10 m (ccw c))
          ∗ Held (slot0 gM) c fullShare (v11 m (cw c))
          ∗ semVal (recvCell c 10) 0
          ∗ semVal (recvCell c 11) 0
          ∗ Sent 12 c
          ∗ Owe c 17) -∗ Q ⟨⟩))
        -∗ run c (k0_part15 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v24 v28 v452 x0) Q) := by
  rw [k0_part15_eq_skeleton]
  unfold k0_part15_skel
  simp only [semSignalWord, semWaitWord, Prog.lift, Prog.bind_op, Prog.bind_ret, Prog.pure_eq_ret]
  iintro ⟨#HE, HR10, HR11, HL12, HS12, HO⟩ Hk
  iapply (recv_step (dst := slot0 fM) m K c 10 16 (by decide) rfl rfl _) $$ [HR10 HO]
  · isplitr; · iexact HE
    isplitl [HR10]; · iexact HR10
    iexact HO
  iintro ⟨HV10, HZ10, HO⟩
  ihave HV10 := (Entails.of_eq (show recvPay m 10 c = Held (slot0 fM) c fullShare (v10 m (ccw c)) from rfl)) $$ HV10
  iapply (recv_step (dst := slot0 gM) m K c 11 16 (by decide) rfl rfl _) $$ [HR11 HO]
  · isplitr; · iexact HE
    isplitl [HR11]; · iexact HR11
    iexact HO
  iintro ⟨HV11, HZ11, HO⟩
  ihave HV11 := (Entails.of_eq (show recvPay m 11 c = Held (slot0 gM) c fullShare (v11 m (cw c)) from rfl)) $$ HV11
  ihave HV10 := (Held_share (slot0 fM) c fullShare (v10 m (ccw c))) $$ HV10
  icases HV10 with ⟨HVl, HV10⟩
  iapply (send_held (dst := slot1 fM) m K c _ 12 (dev17_eq c) rfl rfl _ (v10 m (ccw c)) rfl (Entails.of_eq rfl) (land12 m c)) $$ [HVl HL12 HS12 HO]
  · isplitr; · iexact HE
    isplitl [HVl]; · iexact HVl
    isplitl [HL12]; · iexact HL12
    isplitl [HS12]; · iexact HS12
    iexact HO
  iintro ⟨HS12, HO⟩
  iapply (run_ret c _)
  iapply Hk
  isplitl [HV10]; · iexact HV10
  isplitl [HV11]; · iexact HV11
  isplitl [HZ10]; · iexact HZ10
  isplitl [HZ11]; · iexact HZ11
  isplitl [HS12]; · iexact HS12
  iexact HO

/-- The one from ahead goes on, and both are written out. -/
theorem part16 {Q : _ → sProp 𝕄} (c : Dev nD) (X : S1024x1024.Idx → Elt F .f32) (v20 : BitVec 32) (v24 : BitVec 32) (v449 : BitVec 32) (v451 : BitVec 32) :
    iprop(Env m K
        ∗ Held (slot0 fM) c fullShare.right (v10 m (ccw c))
        ∗ Held (slot0 gM) c fullShare (v11 m (cw c))
        ∗ Free (slot1 gM) (ccw c)
        ∗ ToSend 13 c
        ∗ Out c (k0_off19 c 0#32) sz2 (X)
        ∗ Out c (k0_off20 c 0#32) sz2 (X)
        ∗ Owe c 17)
      ⊢ iprop((∀ (w w1 : BitVec 32), ((Held (slot0 fM) c fullShare.right (v10 m (ccw c))
          ∗ Held (slot0 gM) c fullShare.right (v11 m (cw c))
          ∗ Sent 13 c
          ∗ Out c (k0_off19 c 0#32) sz2 (res m c)
          ∗ Out c (k0_off20 c 0#32) sz2 (res m c)
          ∗ Owe c 18) -∗ Q ⟨w, w1⟩))
        -∗ run c (k0_part16 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v449 v451) Q) := by
  rw [k0_part16_eq_skeleton]
  unfold k0_part16_skel
  simp only [semSignalWord, semWaitWord, Prog.lift, Prog.bind_op, Prog.bind_ret, Prog.pure_eq_ret]
  iintro ⟨#HE, HV10, HV11, HL13, HS13, HQ, HP, HO⟩ Hk
  ihave HV11 := (Held_share (slot0 gM) c fullShare (v11 m (cw c))) $$ HV11
  icases HV11 with ⟨HVl, HV11⟩
  iapply (send_held (dst := slot1 gM) m K c _ 13 (dev18_eq c) rfl rfl _ (v11 m (cw c)) rfl (Entails.of_eq rfl) (land13 m c)) $$ [HVl HL13 HS13 HO]
  · isplitr; · iexact HE
    isplitl [HVl]; · iexact HVl
    isplitl [HL13]; · iexact HL13
    isplitl [HS13]; · iexact HS13
    iexact HO
  iintro ⟨HS13, HO⟩
  iapply (slot_load_step c fM _ (v10 m (ccw c)) _) $$ HV10
  iintro %vHV10 %hvHV10 HV10
  iapply (out_load c _ (X) _) $$ HQ
  iintro HQ %_
  iapply (out_store c _ (X) (fun i => FloatOps.extf .f32 bitsLt_bf16_f32 (fin m (ccw c) i)) (pay19_eq (hvHV10.trans (v10_1 m c))) _) $$ HQ
  iintro HQ
  ihave HQ := (Entails.of_eq (Out_congr (off := k0_off19 c 0#32) (sz := sz2) (res_f0 m c))) $$ HQ
  iapply (slot_load_step c gM _ (v11 m (cw c)) _) $$ HV11
  iintro %vHV11 %hvHV11 HV11
  iapply (out_load c _ (X) _) $$ HP
  iintro HP %_
  iapply (out_store c _ (X) (fun i => FloatOps.extf .f32 bitsLt_bf16_f32 (fin m (cw c) i)) (pay20_eq (hvHV11.trans (v11_1 m c))) _) $$ HP
  iintro HP
  ihave HP := (Entails.of_eq (Out_congr (off := k0_off20 c 0#32) (sz := sz2) (res_g0 m c))) $$ HP
  iapply (run_ret c _)
  iapply Hk
  isplitl [HV10]; · iexact HV10
  isplitl [HV11]; · iexact HV11
  isplitl [HS13]; · iexact HS13
  isplitl [HQ]; · iexact HQ
  isplitl [HP]; · iexact HP
  iexact HO

/-- The second finished pieces arrive, and the one from behind goes on. -/
theorem part17 {Q : _ → sProp 𝕄} (c : Dev nD) (v24 : BitVec 32) (v28 : BitVec 32) :
    iprop(Env m K
        ∗ ToRecv 12 c
        ∗ ToRecv 13 c
        ∗ Free (slot2 fM) (cw c)
        ∗ ToSend 14 c
        ∗ Owe c 18)
      ⊢ iprop((((Held (slot1 fM) c fullShare.right (v10 m (ccw (ccw c)))
          ∗ Held (slot1 gM) c fullShare (v11 m (cw (cw c)))
          ∗ semVal (recvCell c 12) 0
          ∗ semVal (recvCell c 13) 0
          ∗ Sent 14 c
          ∗ Owe c 19) -∗ Q ⟨⟩))
        -∗ run c (k0_part17 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v24 v28) Q) := by
  rw [k0_part17_eq_skeleton]
  unfold k0_part17_skel
  simp only [semSignalWord, semWaitWord, Prog.lift, Prog.bind_op, Prog.bind_ret, Prog.pure_eq_ret]
  iintro ⟨#HE, HR12, HR13, HL14, HS14, HO⟩ Hk
  iapply (recv_step (dst := slot1 fM) m K c 12 18 (by decide) rfl rfl _) $$ [HR12 HO]
  · isplitr; · iexact HE
    isplitl [HR12]; · iexact HR12
    iexact HO
  iintro ⟨HV12, HZ12, HO⟩
  ihave HV12 := (Entails.of_eq (show recvPay m 12 c = Held (slot1 fM) c fullShare (v10 m (ccw (ccw c))) from rfl)) $$ HV12
  iapply (recv_step (dst := slot1 gM) m K c 13 18 (by decide) rfl rfl _) $$ [HR13 HO]
  · isplitr; · iexact HE
    isplitl [HR13]; · iexact HR13
    iexact HO
  iintro ⟨HV13, HZ13, HO⟩
  ihave HV13 := (Entails.of_eq (show recvPay m 13 c = Held (slot1 gM) c fullShare (v11 m (cw (cw c))) from rfl)) $$ HV13
  ihave HV12 := (Held_share (slot1 fM) c fullShare (v10 m (ccw (ccw c)))) $$ HV12
  icases HV12 with ⟨HVl, HV12⟩
  iapply (send_held (dst := slot2 fM) m K c _ 14 (dev19_eq c) rfl rfl _ (v10 m (ccw (ccw c))) rfl (Entails.of_eq rfl) (land14 m c)) $$ [HVl HL14 HS14 HO]
  · isplitr; · iexact HE
    isplitl [HVl]; · iexact HVl
    isplitl [HL14]; · iexact HL14
    isplitl [HS14]; · iexact HS14
    iexact HO
  iintro ⟨HS14, HO⟩
  iapply (run_ret c _)
  iapply Hk
  isplitl [HV12]; · iexact HV12
  isplitl [HV13]; · iexact HV13
  isplitl [HZ12]; · iexact HZ12
  isplitl [HZ13]; · iexact HZ13
  isplitl [HS14]; · iexact HS14
  iexact HO

/-- The one from ahead goes on, and both are written out. -/
theorem part18 {Q : _ → sProp 𝕄} (c : Dev nD) (X : S1024x1024.Idx → Elt F .f32) (v20 : BitVec 32) (v24 : BitVec 32) (v502 : BitVec 32) (v504 : BitVec 32) :
    iprop(Env m K
        ∗ Held (slot1 fM) c fullShare.right (v10 m (ccw (ccw c)))
        ∗ Held (slot1 gM) c fullShare (v11 m (cw (cw c)))
        ∗ Free (slot2 gM) (ccw c)
        ∗ ToSend 15 c
        ∗ Out c (k0_off19 c 1#32) sz2 (X)
        ∗ Out c (k0_off20 c 1#32) sz2 (X)
        ∗ Owe c 19)
      ⊢ iprop((∀ (w w1 : BitVec 32), ((Held (slot1 fM) c fullShare.right (v10 m (ccw (ccw c)))
          ∗ Held (slot1 gM) c fullShare.right (v11 m (cw (cw c)))
          ∗ Sent 15 c
          ∗ Out c (k0_off19 c 1#32) sz2 (res m c)
          ∗ Out c (k0_off20 c 1#32) sz2 (res m c)
          ∗ Owe c 20) -∗ Q ⟨w, w1⟩))
        -∗ run c (k0_part18 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v20 v24 v502 v504) Q) := by
  rw [k0_part18_eq_skeleton]
  unfold k0_part18_skel
  simp only [semSignalWord, semWaitWord, Prog.lift, Prog.bind_op, Prog.bind_ret, Prog.pure_eq_ret]
  iintro ⟨#HE, HV12, HV13, HL15, HS15, HQ, HP, HO⟩ Hk
  ihave HV13 := (Held_share (slot1 gM) c fullShare (v11 m (cw (cw c)))) $$ HV13
  icases HV13 with ⟨HVl, HV13⟩
  iapply (send_held (dst := slot2 gM) m K c _ 15 (dev20_eq c) rfl rfl _ (v11 m (cw (cw c))) rfl (Entails.of_eq rfl) (land15 m c)) $$ [HVl HL15 HS15 HO]
  · isplitr; · iexact HE
    isplitl [HVl]; · iexact HVl
    isplitl [HL15]; · iexact HL15
    isplitl [HS15]; · iexact HS15
    iexact HO
  iintro ⟨HS15, HO⟩
  iapply (slot_load_step c fM _ (v10 m (ccw (ccw c))) _) $$ HV12
  iintro %vHV12 %hvHV12 HV12
  iapply (out_load c _ (X) _) $$ HQ
  iintro HQ %_
  iapply (out_store c _ (X) (fun i => FloatOps.extf .f32 bitsLt_bf16_f32 (fin m (ccw (ccw c)) i)) (pay21_eq (hvHV12.trans (v10_2 m c))) _) $$ HQ
  iintro HQ
  ihave HQ := (Entails.of_eq (Out_congr (off := k0_off19 c 1#32) (sz := sz2) (res_f1 m c))) $$ HQ
  iapply (slot_load_step c gM _ (v11 m (cw (cw c))) _) $$ HV13
  iintro %vHV13 %hvHV13 HV13
  iapply (out_load c _ (X) _) $$ HP
  iintro HP %_
  iapply (out_store c _ (X) (fun i => FloatOps.extf .f32 bitsLt_bf16_f32 (fin m (cw (cw c)) i)) (pay22_eq (hvHV13.trans (v11_2 m c))) _) $$ HP
  iintro HP
  ihave HP := (Entails.of_eq (Out_congr (off := k0_off20 c 1#32) (sz := sz2) (res_g1 m c))) $$ HP
  iapply (run_ret c _)
  iapply Hk
  isplitl [HV12]; · iexact HV12
  isplitl [HV13]; · iexact HV13
  isplitl [HS15]; · iexact HS15
  isplitl [HQ]; · iexact HQ
  isplitl [HP]; · iexact HP
  iexact HO

/-- The third finished pieces arrive and are written out. -/
theorem part19 {Q : _ → sProp 𝕄} (c : Dev nD) (X : S1024x1024.Idx → Elt F .f32) (v28 : BitVec 32) (v557 : BitVec 32) (v559 : BitVec 32) :
    iprop(Env m K
        ∗ ToRecv 14 c
        ∗ ToRecv 15 c
        ∗ Out c (k0_off19 c 2#32) sz2 (X)
        ∗ Out c (k0_off20 c 2#32) sz2 (X)
        ∗ Owe c 20)
      ⊢ iprop((((Held (slot2 fM) c fullShare (v10 m (ccw (ccw (ccw c))))
          ∗ Held (slot2 gM) c fullShare (v11 m (cw (cw (cw c))))
          ∗ semVal (recvCell c 14) 0
          ∗ semVal (recvCell c 15) 0
          ∗ Out c (k0_off19 c 2#32) sz2 (res m c)
          ∗ Out c (k0_off20 c 2#32) sz2 (res m c)
          ∗ Owe c 20) -∗ Q ⟨⟩))
        -∗ run c (k0_part19 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c v28 v557 v559) Q) := by
  rw [k0_part19_eq_skeleton]
  unfold k0_part19_skel
  simp only [semSignalWord, semWaitWord, Prog.lift, Prog.bind_op, Prog.bind_ret, Prog.pure_eq_ret]
  iintro ⟨#HE, HR14, HR15, HQ, HP, HO⟩ Hk
  iapply (recv_step (dst := slot2 fM) m K c 14 20 (by decide) rfl rfl _) $$ [HR14 HO]
  · isplitr; · iexact HE
    isplitl [HR14]; · iexact HR14
    iexact HO
  iintro ⟨HV14, HZ14, HO⟩
  ihave HV14 := (Entails.of_eq (show recvPay m 14 c = Held (slot2 fM) c fullShare (v10 m (ccw (ccw (ccw c)))) from rfl)) $$ HV14
  iapply (recv_step (dst := slot2 gM) m K c 15 20 (by decide) rfl rfl _) $$ [HR15 HO]
  · isplitr; · iexact HE
    isplitl [HR15]; · iexact HR15
    iexact HO
  iintro ⟨HV15, HZ15, HO⟩
  ihave HV15 := (Entails.of_eq (show recvPay m 15 c = Held (slot2 gM) c fullShare (v11 m (cw (cw (cw c)))) from rfl)) $$ HV15
  iapply (slot_load_step c fM _ (v10 m (ccw (ccw (ccw c)))) _) $$ HV14
  iintro %vHV14 %hvHV14 HV14
  iapply (out_load c _ (X) _) $$ HQ
  iintro HQ %_
  iapply (out_store c _ (X) (fun i => FloatOps.extf .f32 bitsLt_bf16_f32 (fin m (ccw (ccw (ccw c))) i)) (pay23_eq (hvHV14.trans (v10_3 m c))) _) $$ HQ
  iintro HQ
  ihave HQ := (Entails.of_eq (Out_congr (off := k0_off19 c 2#32) (sz := sz2) (res_f2 m c))) $$ HQ
  iapply (slot_load_step c gM _ (v11 m (cw (cw (cw c)))) _) $$ HV15
  iintro %vHV15 %hvHV15 HV15
  iapply (out_load c _ (X) _) $$ HP
  iintro HP %_
  iapply (out_store c _ (X) (fun i => FloatOps.extf .f32 bitsLt_bf16_f32 (fin m (cw (cw (cw c))) i)) (pay24_eq (hvHV15.trans (v11_3 m c))) _) $$ HP
  iintro HP
  ihave HP := (Entails.of_eq (Out_congr (off := k0_off20 c 2#32) (sz := sz2) (res_g2 m c))) $$ HP
  iapply (run_ret c _)
  iapply Hk
  isplitl [HV14]; · iexact HV14
  isplitl [HV15]; · iexact HV15
  isplitl [HZ14]; · iexact HZ14
  isplitl [HZ15]; · iexact HZ15
  isplitl [HQ]; · iexact HQ
  isplitl [HP]; · iexact HP
  iexact HO

/-- The device waits for its own transfers to have left, and has their sources back. -/
theorem part20 {Q : _ → sProp 𝕄} (c : Dev nD) :
    iprop(Env m K
        ∗ Sent 0 c
        ∗ Sent 1 c
        ∗ Sent 2 c
        ∗ Sent 3 c
        ∗ Sent 4 c
        ∗ Owe c 20)
      ⊢ iprop((((Acc c (k0_off5 c 0#32) sz2 fullShare (fwd m 0 c)
          ∗ semVal (sendCell c 0) 0
          ∗ Acc c (k0_off6 c 0#32) sz2 fullShare (bwd m 0 c)
          ∗ semVal (sendCell c 1) 0
          ∗ Acc c (k0_off5 c 1#32) sz2 fullShare (fwd m 1 c)
          ∗ semVal (sendCell c 2) 0
          ∗ Acc c (k0_off6 c 1#32) sz2 fullShare (bwd m 1 c)
          ∗ semVal (sendCell c 3) 0
          ∗ Acc c (k0_off5 c 2#32) sz2 fullShare (fwd m 2 c)
          ∗ semVal (sendCell c 4) 0
          ∗ Owe c 20) -∗ Q ⟨⟩))
        -∗ run c (k0_part20 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c) Q) := by
  rw [k0_part20_eq_skeleton]
  unfold k0_part20_skel
  simp only [semSignalWord, semWaitWord, Prog.lift, Prog.bind_op, Prog.bind_ret, Prog.pure_eq_ret]
  iintro ⟨#HE, HS0, HS1, HS2, HS3, HS4, HO⟩ Hk
  iapply (done_step (dst := accM.slice (Rect.unit (s := S1024x1024) (k0_off5 c 0#32) S256x512.size _) (fun _ => rfl)) m K c 0 rfl (credit_wide _ _) _) $$ [HS0 HO]
  · isplitr; · iexact HE
    isplitl [HS0]; · iexact HS0
    iexact HO
  iintro ⟨HV0, HY0, HO⟩
  ihave HV0 := (Entails.of_eq (show sendPay m 0 c = Acc c (k0_off5 c 0#32) sz2 fullShare (fwd m 0 c) from rfl)) $$ HV0
  iapply (done_step (dst := accM.slice (Rect.unit (s := S1024x1024) (k0_off6 c 0#32) S256x512.size _) (fun _ => rfl)) m K c 1 rfl (credit_wide _ _) _) $$ [HS1 HO]
  · isplitr; · iexact HE
    isplitl [HS1]; · iexact HS1
    iexact HO
  iintro ⟨HV1, HY1, HO⟩
  ihave HV1 := (Entails.of_eq (show sendPay m 1 c = Acc c (k0_off6 c 0#32) sz2 fullShare (bwd m 0 c) from rfl)) $$ HV1
  iapply (done_step (dst := accM.slice (Rect.unit (s := S1024x1024) (k0_off5 c 1#32) S256x512.size _) (fun _ => rfl)) m K c 2 rfl (credit_wide _ _) _) $$ [HS2 HO]
  · isplitr; · iexact HE
    isplitl [HS2]; · iexact HS2
    iexact HO
  iintro ⟨HV2, HY2, HO⟩
  ihave HV2 := (Entails.of_eq (show sendPay m 2 c = Acc c (k0_off5 c 1#32) sz2 fullShare (fwd m 1 c) from rfl)) $$ HV2
  iapply (done_step (dst := accM.slice (Rect.unit (s := S1024x1024) (k0_off6 c 1#32) S256x512.size _) (fun _ => rfl)) m K c 3 rfl (credit_wide _ _) _) $$ [HS3 HO]
  · isplitr; · iexact HE
    isplitl [HS3]; · iexact HS3
    iexact HO
  iintro ⟨HV3, HY3, HO⟩
  ihave HV3 := (Entails.of_eq (show sendPay m 3 c = Acc c (k0_off6 c 1#32) sz2 fullShare (bwd m 1 c) from rfl)) $$ HV3
  iapply (done_step (dst := accM.slice (Rect.unit (s := S1024x1024) (k0_off5 c 2#32) S256x512.size _) (fun _ => rfl)) m K c 4 rfl (credit_wide _ _) _) $$ [HS4 HO]
  · isplitr; · iexact HE
    isplitl [HS4]; · iexact HS4
    iexact HO
  iintro ⟨HV4, HY4, HO⟩
  ihave HV4 := (Entails.of_eq (show sendPay m 4 c = Acc c (k0_off5 c 2#32) sz2 fullShare (fwd m 2 c) from rfl)) $$ HV4
  iapply (run_ret c _)
  iapply Hk
  isplitl [HV0]; · iexact HV0
  isplitl [HY0]; · iexact HY0
  isplitl [HV1]; · iexact HV1
  isplitl [HY1]; · iexact HY1
  isplitl [HV2]; · iexact HV2
  isplitl [HY2]; · iexact HY2
  isplitl [HV3]; · iexact HV3
  isplitl [HY3]; · iexact HY3
  isplitl [HV4]; · iexact HV4
  isplitl [HY4]; · iexact HY4
  iexact HO

/-- The device waits for its own transfers to have left, and has their sources back. -/
theorem part21 {Q : _ → sProp 𝕄} (c : Dev nD) :
    iprop(Env m K
        ∗ Sent 5 c
        ∗ Sent 6 c
        ∗ Sent 7 c
        ∗ Sent 8 c
        ∗ Sent 9 c
        ∗ Sent 10 c
        ∗ Owe c 20)
      ⊢ iprop((((Acc c (k0_off6 c 2#32) sz2 fullShare (bwd m 2 c)
          ∗ semVal (sendCell c 5) 0
          ∗ semVal (sendCell c 6) 0
          ∗ semVal (sendCell c 7) 0
          ∗ Acc c (k0_off13 c) sz1 fullShare.left (fin m c)
          ∗ semVal (sendCell c 8) 0
          ∗ Acc c (k0_off15 c) sz2 fullShare.right.left (fin m c)
          ∗ semVal (sendCell c 9) 0
          ∗ Acc c (k0_off17 c) sz2 fullShare.right.right (fin m c)
          ∗ semVal (sendCell c 10) 0
          ∗ Owe c 20) -∗ Q ⟨⟩))
        -∗ run c (k0_part21 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c) Q) := by
  rw [k0_part21_eq_skeleton]
  unfold k0_part21_skel
  simp only [semSignalWord, semWaitWord, Prog.lift, Prog.bind_op, Prog.bind_ret, Prog.pure_eq_ret]
  iintro ⟨#HE, HS5, HS6, HS7, HS8, HS9, HS10, HO⟩ Hk
  iapply (done_step (dst := accM.slice (Rect.unit (s := S1024x1024) (k0_off6 c 2#32) S256x512.size _) (fun _ => rfl)) m K c 5 rfl (credit_wide _ _) _) $$ [HS5 HO]
  · isplitr; · iexact HE
    isplitl [HS5]; · iexact HS5
    iexact HO
  iintro ⟨HV5, HY5, HO⟩
  ihave HV5 := (Entails.of_eq (show sendPay m 5 c = Acc c (k0_off6 c 2#32) sz2 fullShare (bwd m 2 c) from rfl)) $$ HV5
  iapply (done_step (dst := accM.slice (Rect.unit (s := S1024x1024) (k0_off9 c) S256x512.size _) (fun _ => rfl)) m K c 6 rfl (credit_wide _ _) _) $$ [HS6 HO]
  · isplitr; · iexact HE
    isplitl [HS6]; · iexact HS6
    iexact HO
  iintro ⟨HV6, HY6, HO⟩
  iapply (done_step (dst := accM.slice (Rect.unit (s := S1024x1024) (k0_off11 c) S256x256.size _) (fun _ => rfl)) m K c 7 rfl (credit_narrow _ _) _) $$ [HS7 HO]
  · isplitr; · iexact HE
    isplitl [HS7]; · iexact HS7
    iexact HO
  iintro ⟨HV7, HY7, HO⟩
  iapply (done_step (dst := accM.slice (Rect.unit (s := S1024x1024) (k0_off13 c) S256x256.size _) (fun _ => rfl)) m K c 8 rfl (credit_narrow _ _) _) $$ [HS8 HO]
  · isplitr; · iexact HE
    isplitl [HS8]; · iexact HS8
    iexact HO
  iintro ⟨HV8, HY8, HO⟩
  ihave HV8 := (Entails.of_eq (show sendPay m 8 c = Acc c (k0_off13 c) sz1 fullShare.left (fin m c) from rfl)) $$ HV8
  iapply (done_step (dst := accM.slice (Rect.unit (s := S1024x1024) (k0_off15 c) S256x512.size _) (fun _ => rfl)) m K c 9 rfl (credit_wide _ _) _) $$ [HS9 HO]
  · isplitr; · iexact HE
    isplitl [HS9]; · iexact HS9
    iexact HO
  iintro ⟨HV9, HY9, HO⟩
  ihave HV9 := (Entails.of_eq (show sendPay m 9 c = Acc c (k0_off15 c) sz2 fullShare.right.left (fin m c) from rfl)) $$ HV9
  iapply (done_step (dst := accM.slice (Rect.unit (s := S1024x1024) (k0_off17 c) S256x512.size _) (fun _ => rfl)) m K c 10 rfl (credit_wide _ _) _) $$ [HS10 HO]
  · isplitr; · iexact HE
    isplitl [HS10]; · iexact HS10
    iexact HO
  iintro ⟨HV10, HY10, HO⟩
  ihave HV10 := (Entails.of_eq (show sendPay m 10 c = Acc c (k0_off17 c) sz2 fullShare.right.right (fin m c) from rfl)) $$ HV10
  iapply (run_ret c _)
  iapply Hk
  isplitl [HV5]; · iexact HV5
  isplitl [HY5]; · iexact HY5
  isplitl [HY6]; · iexact HY6
  isplitl [HY7]; · iexact HY7
  isplitl [HV8]; · iexact HV8
  isplitl [HY8]; · iexact HY8
  isplitl [HV9]; · iexact HV9
  isplitl [HY9]; · iexact HY9
  isplitl [HV10]; · iexact HV10
  isplitl [HY10]; · iexact HY10
  iexact HO

/-- The device waits for its own transfers to have left, and has their sources back. -/
theorem part22 {Q : _ → sProp 𝕄} (c : Dev nD) :
    iprop(Env m K
        ∗ Sent 11 c
        ∗ Sent 12 c
        ∗ Sent 13 c
        ∗ Sent 14 c
        ∗ Owe c 20)
      ⊢ iprop((((Acc c (k0_off18 c) sz2 fullShare.right.right (fin m c)
          ∗ semVal (sendCell c 11) 0
          ∗ Held (slot0 fM) c fullShare.left (v10 m (ccw c))
          ∗ semVal (sendCell c 12) 0
          ∗ Held (slot0 gM) c fullShare.left (v11 m (cw c))
          ∗ semVal (sendCell c 13) 0
          ∗ Held (slot1 fM) c fullShare.left (v10 m (ccw (ccw c)))
          ∗ semVal (sendCell c 14) 0
          ∗ Owe c 20) -∗ Q ⟨⟩))
        -∗ run c (k0_part22 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0 c) Q) := by
  rw [k0_part22_eq_skeleton]
  unfold k0_part22_skel
  simp only [semSignalWord, semWaitWord, Prog.lift, Prog.bind_op, Prog.bind_ret, Prog.pure_eq_ret]
  iintro ⟨#HE, HS11, HS12, HS13, HS14, HO⟩ Hk
  iapply (done_step (dst := accM.slice (Rect.unit (s := S1024x1024) (k0_off18 c) S256x512.size _) (fun _ => rfl)) m K c 11 rfl (credit_wide _ _) _) $$ [HS11 HO]
  · isplitr; · iexact HE
    isplitl [HS11]; · iexact HS11
    iexact HO
  iintro ⟨HV11, HY11, HO⟩
  ihave HV11 := (Entails.of_eq (show sendPay m 11 c = Acc c (k0_off18 c) sz2 fullShare.right.right (fin m c) from rfl)) $$ HV11
  iapply (done_step (dst := slot0 fM) m K c 12 rfl (rfl) _) $$ [HS12 HO]
  · isplitr; · iexact HE
    isplitl [HS12]; · iexact HS12
    iexact HO
  iintro ⟨HV12, HY12, HO⟩
  ihave HV12 := (Entails.of_eq (show sendPay m 12 c = Held (slot0 fM) c fullShare.left (v10 m (ccw c)) from rfl)) $$ HV12
  iapply (done_step (dst := slot0 gM) m K c 13 rfl (rfl) _) $$ [HS13 HO]
  · isplitr; · iexact HE
    isplitl [HS13]; · iexact HS13
    iexact HO
  iintro ⟨HV13, HY13, HO⟩
  ihave HV13 := (Entails.of_eq (show sendPay m 13 c = Held (slot0 gM) c fullShare.left (v11 m (cw c)) from rfl)) $$ HV13
  iapply (done_step (dst := slot1 fM) m K c 14 rfl (rfl) _) $$ [HS14 HO]
  · isplitr; · iexact HE
    isplitl [HS14]; · iexact HS14
    iexact HO
  iintro ⟨HV14, HY14, HO⟩
  ihave HV14 := (Entails.of_eq (show sendPay m 14 c = Held (slot1 fM) c fullShare.left (v10 m (ccw (ccw c))) from rfl)) $$ HV14
  iapply (run_ret c _)
  iapply Hk
  isplitl [HV11]; · iexact HV11
  isplitl [HY11]; · iexact HY11
  isplitl [HV12]; · iexact HV12
  isplitl [HY12]; · iexact HY12
  isplitl [HV13]; · iexact HV13
  isplitl [HY13]; · iexact HY13
  isplitl [HV14]; · iexact HV14
  isplitl [HY14]; · iexact HY14
  iexact HO

end Cert.KernelIdeal.Ring

end
-- ==== Proof.Ring.Body.lean ====
/- The whole body of the kernel, put together from its parts. -/
module

public import proofs.«01_k».proof.Proof.Ring.PartsA
public import proofs.«01_k».proof.Proof.Ring.PartsB
public import proofs.«01_k».proof.Proof.Ring.PartsC

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)
variable (K : Dev nD × Fin 34 → ℕ)

local notation "𝕄" => MT nD τ sig Unit (Elt F) ℕ UU ℕ

/-- The whole accumulator, and the whole result, of device `c`. -/
abbrev AccAll (c : Dev nD) (X : S1024x1024.Idx → Elt F .bf16) : sProp 𝕄 :=
  (accM : Memref sig .tc .vmem S1024x1024 .bf16).view.loc (c : Thread nD τ) ↦[Finset.univ]{fullShare} X
abbrev OutAll (c : Dev nD) (X : S1024x1024.Idx → Elt F .f32) : sProp 𝕄 :=
  (outM : Memref sig .tc .vmem S1024x1024 .f32).view.loc (c : Thread nD τ) ↦[Finset.univ]{fullShare} X
theorem run_bind {α β : Type} {Q : β → sProp 𝕄} (c : Dev nD) (p : Prog (TpuEff nD τ sig (Elt F) Λ₀ .tc) α) (k : α → Prog (TpuEff nD τ sig (Elt F) Λ₀ .tc) β) :
    (run c (p >>= k) Q : sProp 𝕄) = run c p (fun a => run c (k a) Q) := wp_bind ..

/-! ## The rooms handed over, and those received -/

theorem give0 (c : Dev nD) : iprop(Free (F := F) (slot0 bM) c ∗ Free (slot1 bM) c ∗ Free (slot2 bM) c ∗ Free (slot0 gM) c ∗ Free (slot1 gM) c ∗ Free (slot2 gM) c) ⊢ barPay (cw c) 0 := by
  show _ ⊢ iprop(Free (slot0 bM) (ccw (cw c)) ∗ Free (slot1 bM) (ccw (cw c)) ∗ Free (slot2 bM) (ccw (cw c)) ∗ Free (slot0 gM) (ccw (cw c)) ∗ Free (slot1 gM) (ccw (cw c)) ∗ Free (slot2 gM) (ccw (cw c)))
  rw [ccw_cw]
theorem give1 (c : Dev nD) : iprop(Free (F := F) (slot0 aM) c ∗ Free (slot1 aM) c ∗ Free (slot2 aM) c ∗ Free (slot0 fM) c ∗ Free (slot1 fM) c ∗ Free (slot2 fM) c) ⊢ barPay (ccw c) 1 := by
  show _ ⊢ iprop(Free (slot0 aM) (cw (ccw c)) ∗ Free (slot1 aM) (cw (ccw c)) ∗ Free (slot2 aM) (cw (ccw c)) ∗ Free (slot0 fM) (cw (ccw c)) ∗ Free (slot1 fM) (cw (ccw c)) ∗ Free (slot2 fM) (cw (ccw c)))
  rw [cw_ccw]
theorem give2 (c : Dev nD) : iprop(Free (F := F) e0M c ∗ Free e3M c) ⊢ barPay (p1 c) 2 := by
  show _ ⊢ iprop(Free e0M (p1 (p1 c)) ∗ Free e3M (p1 (p1 c))); rw [p1_p1]
theorem give3 (c : Dev nD) : iprop(Free (F := F) e1M c ∗ Free e2M c) ⊢ barPay (p2 c) 3 := by
  show _ ⊢ iprop(Free e1M (p2 (p2 c)) ∗ Free e2M (p2 (p2 c))); rw [p2_p2]
theorem take0 (c : Dev nD) : (barPay c 0 : sProp 𝕄) ⊢ iprop(Free (slot0 bM) (ccw c) ∗ Free (slot1 bM) (ccw c) ∗ Free (slot2 bM) (ccw c) ∗ Free (slot0 gM) (ccw c) ∗ Free (slot1 gM) (ccw c) ∗ Free (slot2 gM) (ccw c)) :=
  Entails.of_eq rfl
theorem take1 (c : Dev nD) : (barPay c 1 : sProp 𝕄) ⊢ iprop(Free (slot0 aM) (cw c) ∗ Free (slot1 aM) (cw c) ∗ Free (slot2 aM) (cw c) ∗ Free (slot0 fM) (cw c) ∗ Free (slot1 fM) (cw c) ∗ Free (slot2 fM) (cw c)) :=
  Entails.of_eq rfl
theorem take2 (c : Dev nD) : (barPay c 2 : sProp 𝕄) ⊢ iprop(Free e0M (p1 c) ∗ Free e3M (p1 c)) := Entails.of_eq rfl
theorem take3 (c : Dev nD) : (barPay c 3 : sProp 𝕄) ⊢ iprop(Free e1M (p2 c) ∗ Free e2M (p2 c)) := Entails.of_eq rfl

/-- The device learns its name. -/
theorem part1 {Q : _ → sProp 𝕄} (c : Dev nD) :
    iprop(∀ (u0 u1 u2 u3 u4 u5 u6 u7 u8 u9 u10 : BitVec 32), Q ⟨c, u0, u1, u2, u3, u4, u5, u6, u7, u8, u9, u10⟩)
      ⊢ run c (k0_part1 (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0) Q := by
  rw [k0_part1_eq_skeleton]
  unfold k0_part1_skel
  simp only [Prog.lift, Prog.bind_op, Prog.bind_ret, Prog.pure_eq_ret]
  iintro Hk
  unfold run
  simp only [wp_deviceId]
  iapply (run_ret c _)
  iapply Hk

/-- All pieces of the accumulator together are the accumulator again. -/
theorem acc_back (c : Dev nD) :
    iprop(Acc c (k0_off5 c 0#32) sz2 fullShare (fwd m 0 c)
        ∗ Acc c (k0_off6 c 0#32) sz2 fullShare (bwd m 0 c)
        ∗ Acc c (k0_off5 c 1#32) sz2 fullShare (fwd m 1 c)
        ∗ Acc c (k0_off6 c 1#32) sz2 fullShare (bwd m 1 c)
        ∗ Acc c (k0_off5 c 2#32) sz2 fullShare (fwd m 2 c)
        ∗ Acc c (k0_off6 c 2#32) sz2 fullShare (bwd m 2 c)
        ∗ Acc c (k0_off13 c) sz1 fullShare.left (fin m c)
        ∗ Acc c (k0_off14 c) sz1 fullShare.left (fin m c)
        ∗ Acc c (k0_off15 c) sz2 fullShare.right.left (fin m c)
        ∗ Acc c (k0_off16 c) sz2 fullShare.right.left (fin m c)
        ∗ Acc c (k0_off16 c) sz2 fullShare.left (fin m c)
        ∗ Acc c (k0_off17 c) sz2 fullShare.right.right (fin m c)
        ∗ Acc c (k0_off18 c) sz2 fullShare.right.right (fin m c))
      ⊢ Any c Finset.univ := by
  iintro ⟨HU0, HU1, HU2, HU3, HU4, HU5, HU8, HBl, HU9, HCrl, HCl, HU10, HU11⟩
  ihave L := (Entails.of_eq (Acc_split (quarter' c) c fullShare.left (fin m c)).symm) $$ [HU8 HBl]
  · isplitl [HU8]; · iexact HU8
    iexact HBl
  ihave R := (Entails.of_eq (Acc_split (half_1' c) c fullShare.right.right (fin m c)).symm) $$ [HU10 HU11]
  · isplitl [HU10]; · iexact HU10
    iexact HU11
  ihave M := (Entails.of_eq (Acc_split (half_p' c) c fullShare.right.left (fin m c)).symm) $$ [HU9 HCrl]
  · isplitl [HU9]; · iexact HU9
    iexact HCrl
  ihave L := (Entails.of_eq (Acc_split (half_p' c) c fullShare.left (fin m c)).symm) $$ [L HCl]
  · isplitl [L]; · iexact L
    iexact HCl
  ihave R := (Entails.of_eq (Acc_share c (k0_off4 c 1#32) sz4 fullShare.right (fin m c)).symm) $$ [M R]
  · isplitl [M]; · iexact M
    iexact R
  ihave R := (Entails.of_eq (Acc_share c (k0_off4 c 1#32) sz4 fullShare (fin m c)).symm) $$ [L R]
  · isplitl [L]; · iexact L
    iexact R
  ihave R := (acc_any c (k0_off4 c 1#32) sz4 (fin m c)) $$ R
  ihave HU0 := (Entails.of_eq (show Acc c (k0_off5 c 0#32) sz2 fullShare (fwd m 0 c) = Acc c (k0_off19 c 0#32) sz2 fullShare (fwd m 0 c) by rw [(off19_5 c).1])) $$ HU0
  ihave HU2 := (Entails.of_eq (show Acc c (k0_off5 c 1#32) sz2 fullShare (fwd m 1 c) = Acc c (k0_off19 c 1#32) sz2 fullShare (fwd m 1 c) by rw [(off19_5 c).2.1])) $$ HU2
  ihave HU4 := (Entails.of_eq (show Acc c (k0_off5 c 2#32) sz2 fullShare (fwd m 2 c) = Acc c (k0_off19 c 2#32) sz2 fullShare (fwd m 2 c) by rw [(off19_5 c).2.2])) $$ HU4
  ihave HU1 := (Entails.of_eq (show Acc c (k0_off6 c 0#32) sz2 fullShare (bwd m 0 c) = Acc c (k0_off20 c 0#32) sz2 fullShare (bwd m 0 c) by rw [(off20_6 c).1])) $$ HU1
  ihave HU3 := (Entails.of_eq (show Acc c (k0_off6 c 1#32) sz2 fullShare (bwd m 1 c) = Acc c (k0_off20 c 1#32) sz2 fullShare (bwd m 1 c) by rw [(off20_6 c).2.1])) $$ HU3
  ihave HU5 := (Entails.of_eq (show Acc c (k0_off6 c 2#32) sz2 fullShare (bwd m 2 c) = Acc c (k0_off20 c 2#32) sz2 fullShare (bwd m 2 c) by rw [(off20_6 c).2.2])) $$ HU5
  ihave B0 := (any_parts (half_0' c) c (fwd m 0 c) (bwd m 2 c)) $$ [HU0 HU5]
  · isplitl [HU0]; · iexact HU0
    iexact HU5
  ihave B2 := (any_parts (half_2' c) c (fwd m 2 c) (bwd m 0 c)) $$ [HU4 HU1]
  · isplitl [HU4]; · iexact HU4
    iexact HU1
  ihave B3 := (any_parts (half_3' c) c (fwd m 1 c) (bwd m 1 c)) $$ [HU2 HU3]
  · isplitl [HU2]; · iexact HU2
    iexact HU3
  iapply (any_rows c)
  isplitl [B0]; · iexact B0
  isplitl [B2]; · iexact B2
  isplitl [B3]; · iexact B3
  iexact R

/-- All pieces of the result together are the result. -/
theorem out_back (c : Dev nD) :
    iprop(Out c (k0_off19 c 0#32) sz2 (res m c)
        ∗ Out c (k0_off19 c 1#32) sz2 (res m c)
        ∗ Out c (k0_off19 c 2#32) sz2 (res m c)
        ∗ Out c (k0_off20 c 0#32) sz2 (res m c)
        ∗ Out c (k0_off20 c 1#32) sz2 (res m c)
        ∗ Out c (k0_off20 c 2#32) sz2 (res m c)
        ∗ Out c (k0_off4 c 1#32) sz4 (res m c))
      ⊢ ((outM : Memref sig .tc .vmem S1024x1024 .f32).view.loc (c : Thread nD τ) ↦[Finset.univ]{fullShare} (res m c) : sProp 𝕄) := by
  iintro ⟨F0, F1, F2, G0, G1, G2, R⟩
  ihave B0 := (Entails.of_eq (Out_split (half_0' c) c (res m c)).symm) $$ [F0 G2]
  · isplitl [F0]; · iexact F0
    iexact G2
  ihave B2 := (Entails.of_eq (Out_split (half_2' c) c (res m c)).symm) $$ [F2 G0]
  · isplitl [F2]; · iexact F2
    iexact G0
  ihave B3 := (Entails.of_eq (Out_split (half_3' c) c (res m c)).symm) $$ [F1 G1]
  · isplitl [F1]; · iexact F1
    iexact G1
  iapply (Entails.of_eq (out_rows c (res m c)).symm)
  isplitl [B0]; · iexact B0
  isplitl [B2]; · iexact B2
  isplitl [B3]; · iexact B3
  iexact R

/-- What device `c` starts the body with. -/
def Ready (c : Dev nD) (X : S1024x1024.Idx → Elt F .bf16) (Y : S1024x1024.Idx → Elt F .f32) : sProp 𝕄 :=
  iprop(Owe c 0
    ∗ Tok 0 0 c
    ∗ Tok 0 1 c
    ∗ Tok 0 2 c
    ∗ Tok 0 3 c
    ∗ Tok 1 0 c
    ∗ Tok 1 1 c
    ∗ Tok 1 2 c
    ∗ Tok 1 3 c
    ∗ ToMeet 0 c
    ∗ ToMeet 1 c
    ∗ ToSend 0 c
    ∗ ToSend 1 c
    ∗ ToSend 2 c
    ∗ ToSend 3 c
    ∗ ToSend 4 c
    ∗ ToSend 5 c
    ∗ ToSend 6 c
    ∗ ToSend 7 c
    ∗ ToSend 8 c
    ∗ ToSend 9 c
    ∗ ToSend 10 c
    ∗ ToSend 11 c
    ∗ ToSend 12 c
    ∗ ToSend 13 c
    ∗ ToSend 14 c
    ∗ ToSend 15 c
    ∗ ToRecv 0 c
    ∗ ToRecv 1 c
    ∗ ToRecv 2 c
    ∗ ToRecv 3 c
    ∗ ToRecv 4 c
    ∗ ToRecv 5 c
    ∗ ToRecv 6 c
    ∗ ToRecv 7 c
    ∗ ToRecv 8 c
    ∗ ToRecv 9 c
    ∗ ToRecv 10 c
    ∗ ToRecv 11 c
    ∗ ToRecv 12 c
    ∗ ToRecv 13 c
    ∗ ToRecv 14 c
    ∗ ToRecv 15 c
    ∗ Dy m c
    ∗ Wt m c
    ∗ AccAll c X
    ∗ OutAll c Y
    ∗ Free aM c
    ∗ Free bM c
    ∗ Free e0M c
    ∗ Free e1M c
    ∗ Free e2M c
    ∗ Free e3M c
    ∗ Free fM c
    ∗ Free gM c)

/-- What it ends the body with. -/
def Finished (c : Dev nD) : sProp 𝕄 :=
  iprop(Owe c 24
    ∗ Dy m c
    ∗ Wt m c
    ∗ Any c Finset.univ
    ∗ OutAll c (res m c)
    ∗ Free aM c
    ∗ Free bM c
    ∗ Free e0M c
    ∗ Free e1M c
    ∗ Free e2M c
    ∗ Free e3M c
    ∗ Free fM c
    ∗ Free gM c
    ∗ semVal (barCell c) 0
    ∗ semVal (endCell c) 0
    ∗ semVal (sendCell c 0) 0
    ∗ semVal (sendCell c 1) 0
    ∗ semVal (sendCell c 2) 0
    ∗ semVal (sendCell c 3) 0
    ∗ semVal (sendCell c 4) 0
    ∗ semVal (sendCell c 5) 0
    ∗ semVal (sendCell c 6) 0
    ∗ semVal (sendCell c 7) 0
    ∗ semVal (sendCell c 8) 0
    ∗ semVal (sendCell c 9) 0
    ∗ semVal (sendCell c 10) 0
    ∗ semVal (sendCell c 11) 0
    ∗ semVal (sendCell c 12) 0
    ∗ semVal (sendCell c 13) 0
    ∗ semVal (sendCell c 14) 0
    ∗ semVal (sendCell c 15) 0
    ∗ semVal (recvCell c 0) 0
    ∗ semVal (recvCell c 1) 0
    ∗ semVal (recvCell c 2) 0
    ∗ semVal (recvCell c 3) 0
    ∗ semVal (recvCell c 4) 0
    ∗ semVal (recvCell c 5) 0
    ∗ semVal (recvCell c 6) 0
    ∗ semVal (recvCell c 7) 0
    ∗ semVal (recvCell c 8) 0
    ∗ semVal (recvCell c 9) 0
    ∗ semVal (recvCell c 10) 0
    ∗ semVal (recvCell c 11) 0
    ∗ semVal (recvCell c 12) 0
    ∗ semVal (recvCell c 13) 0
    ∗ semVal (recvCell c 14) 0
    ∗ semVal (recvCell c 15) 0)

set_option maxHeartbeats 4000000 in
/-- The whole body, from its start to its end. -/
theorem body_run {Q : PUnit → sProp 𝕄} (c : Dev nD) (X : S1024x1024.Idx → Elt F .bf16) (Y : S1024x1024.Idx → Elt F .f32) :
    iprop(Env m K ∗ Ready m c X Y) ⊢ iprop((Finished m c -∗ Q ⟨⟩) -∗ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0) Q) := by
  rw [cc0_body_eq_skeleton]
  unfold cc0_body_skel Ready Finished
  iintro ⟨#HE, HO, HT0, HT1, HT2, HT3, HN0, HN1, HN2, HN3, HM, HM1, HS0, HS1, HS2, HS3, HS4, HS5, HS6, HS7, HS8, HS9, HS10, HS11, HS12, HS13, HS14, HS15, HR0, HR1, HR2, HR3, HR4, HR5, HR6, HR7, HR8, HR9, HR10, HR11, HR12, HR13, HR14, HR15, HD, HW, HA, HQ, HFa, HFb, HFe0, HFe1, HFe2, HFe3, HFf, HFg⟩ Hk
  ihave HFa := (slots_split aM c) $$ HFa
  icases HFa with ⟨HFa0, HFa1, HFa2⟩
  ihave HFb := (slots_split bM c) $$ HFb
  icases HFb with ⟨HFb0, HFb1, HFb2⟩
  ihave HFf := (slots_split fM c) $$ HFf
  icases HFf with ⟨HFf0, HFf1, HFf2⟩
  ihave HFg := (slots_split gM c) $$ HFg
  icases HFg with ⟨HFg0, HFg1, HFg2⟩
  ihave HB0 := (give0 c) $$ [HFb0 HFb1 HFb2 HFg0 HFg1 HFg2]
  · isplitl [HFb0]; · iexact HFb0
    isplitl [HFb1]; · iexact HFb1
    isplitl [HFb2]; · iexact HFb2
    isplitl [HFg0]; · iexact HFg0
    isplitl [HFg1]; · iexact HFg1
    iexact HFg2
  ihave HB1 := (give1 c) $$ [HFa0 HFa1 HFa2 HFf0 HFf1 HFf2]
  · isplitl [HFa0]; · iexact HFa0
    isplitl [HFa1]; · iexact HFa1
    isplitl [HFa2]; · iexact HFa2
    isplitl [HFf0]; · iexact HFf0
    isplitl [HFf1]; · iexact HFf1
    iexact HFf2
  ihave HB2 := (give2 c) $$ [HFe0 HFe3]
  · isplitl [HFe0]; · iexact HFe0
    iexact HFe3
  ihave HB3 := (give3 c) $$ [HFe1 HFe2]
  · isplitl [HFe1]; · iexact HFe1
    iexact HFe2
  ihave HA := (Entails.of_eq (acc_rows c X)) $$ HA
  icases HA with ⟨HA0, HA2, HA3, HA1⟩
  ihave HQ := (Entails.of_eq (out_rows c Y)) $$ HQ
  icases HQ with ⟨HQ0, HQ2, HQ3, HQ1⟩
  ihave HQ0 := (Entails.of_eq (Out_split (half_0' c) c Y)) $$ HQ0
  icases HQ0 with ⟨HQ190, HQ202⟩
  ihave HQ2 := (Entails.of_eq (Out_split (half_2' c) c Y)) $$ HQ2
  icases HQ2 with ⟨HQ192, HQ200⟩
  ihave HQ3 := (Entails.of_eq (Out_split (half_3' c) c Y)) $$ HQ3
  icases HQ3 with ⟨HQ191, HQ201⟩
  rw [run_bind]
  iapply (part1 c)
  iintro %u0 %u1 %u2 %u3 %u4 %u5 %u6 %u7 %u8 %u9 %u10
  dsimp only
  rw [run_bind]
  iapply (part2 m K c _ _ _ _ _ _ _ _ _ _) $$ [HO HT0 HB0 HT1 HB1 HT2 HB2 HT3 HB3 HM HD HW]
  · isplitr; · iexact HE
    isplitl [HO]; · iexact HO
    isplitl [HT0]; · iexact HT0
    isplitl [HB0]; · iexact HB0
    isplitl [HT1]; · iexact HT1
    isplitl [HB1]; · iexact HB1
    isplitl [HT2]; · iexact HT2
    isplitl [HB2]; · iexact HB2
    isplitl [HT3]; · iexact HT3
    isplitl [HB3]; · iexact HB3
    isplitl [HM]; · iexact HM
    isplitl [HD]; · iexact HD
    iexact HW
  iintro %z2_w ⟨HO, HZ, HP, HD, HW⟩
  try dsimp only
  icases HP with ⟨HP0, HP1, HP2, HP3⟩
  ihave HP0 := (take0 c) $$ HP0
  icases HP0 with ⟨HL1, HL3, HL5, HL11, HL13, HL15⟩
  ihave HP1 := (take1 c) $$ HP1
  icases HP1 with ⟨HL0, HL2, HL4, HL10, HL12, HL14⟩
  ihave HP2 := (take2 c) $$ HP2
  icases HP2 with ⟨HL6, HL9⟩
  ihave HP3 := (take3 c) $$ HP3
  icases HP3 with ⟨HL7, HL8⟩
  rw [run_bind]
  iapply (part3 m K c X _ _ _) $$ [HD HW HA0 HA2]
  · isplitr; · iexact HE
    isplitl [HD]; · iexact HD
    isplitl [HW]; · iexact HW
    isplitl [HA0]; · iexact HA0
    iexact HA2
  iintro ⟨HD, HW, HA0, HA2⟩
  try dsimp only
  ihave HA0 := (Entails.of_eq (Acc_split (half_0 c) c fullShare (G m c))) $$ HA0
  icases HA0 with ⟨A50, A81⟩
  ihave HA2 := (Entails.of_eq (Acc_split (half_2 c) c fullShare (G m c))) $$ HA2
  icases HA2 with ⟨A71, A60⟩
  ihave A50 := (Entails.of_eq (show Acc c (k0_off5 c 0#32) sz2 fullShare (G m c) = Acc c (k0_off5 c 0#32) sz2 fullShare (fwd m 0 c) from rfl)) $$ A50
  ihave A60 := (Entails.of_eq (show Acc c (k0_off6 c 0#32) sz2 fullShare (G m c) = Acc c (k0_off6 c 0#32) sz2 fullShare (bwd m 0 c) from rfl)) $$ A60
  rw [run_bind]
  iapply (part4 m K c X _ _) $$ [A50 HL0 HS0 A60 HL1 HS1 HO HD HW HA3]
  · isplitr; · iexact HE
    isplitl [A50]; · iexact A50
    isplitl [HL0]; · iexact HL0
    isplitl [HS0]; · iexact HS0
    isplitl [A60]; · iexact A60
    isplitl [HL1]; · iexact HL1
    isplitl [HS1]; · iexact HS1
    isplitl [HO]; · iexact HO
    isplitl [HD]; · iexact HD
    isplitl [HW]; · iexact HW
    iexact HA3
  iintro %z4_w ⟨HS0, HS1, HO, HD, HW, HA3⟩
  try dsimp only
  ihave HA3 := (Entails.of_eq (Acc_split (half_3 c) c fullShare (G m c))) $$ HA3
  icases HA3 with ⟨A70, A80⟩
  rw [run_bind]
  iapply (part5 m K c X _ _ _ _) $$ [HW HA1 HR0 HO]
  · isplitr; · iexact HE
    isplitl [HW]; · iexact HW
    isplitl [HA1]; · iexact HA1
    isplitl [HR0]; · iexact HR0
    iexact HO
  iintro %z5_w %z5_w1 ⟨HW, HA1, HV0, HZ0, HO⟩
  try dsimp only
  ihave HA1 := (Entails.of_eq (Acc_split (half_1 c) c fullShare (G m c))) $$ HA1
  icases HA1 with ⟨A72, A82⟩
  rw [run_bind]
  iapply (part6 m K c _ _ _) $$ [HR1 HO A70 HV0 A80]
  · isplitr; · iexact HE
    isplitl [HR1]; · iexact HR1
    isplitl [HO]; · iexact HO
    isplitl [A70]; · iexact A70
    isplitl [HV0]; · iexact HV0
    iexact A80
  iintro %z6_w ⟨HO, A70, HV0, A80, HV1, HZ1⟩
  try dsimp only
  ihave A70 := (Entails.of_eq (show Acc c (k0_off7 c 0#32) sz2 fullShare (fwd m 1 c) = Acc c (k0_off5 c 1#32) sz2 fullShare (fwd m 1 c) by rw [off7_0])) $$ A70
  ihave A80 := (Entails.of_eq (show Acc c (k0_off8 c 0#32) sz2 fullShare (bwd m 1 c) = Acc c (k0_off6 c 1#32) sz2 fullShare (bwd m 1 c) by rw [off8_0])) $$ A80
  rw [run_bind]
  iapply (part7 m K c _ _ _ _) $$ [A70 HL2 HS2 A80 HL3 HS3 HO]
  · isplitr; · iexact HE
    isplitl [A70]; · iexact A70
    isplitl [HL2]; · iexact HL2
    isplitl [HS2]; · iexact HS2
    isplitl [A80]; · iexact A80
    isplitl [HL3]; · iexact HL3
    isplitl [HS3]; · iexact HS3
    iexact HO
  iintro %z7_w %z7_w1 ⟨HS2, HS3, HO⟩
  try dsimp only
  rw [run_bind]
  iapply (part8 m K c _ _ _) $$ [HR2 HR3 HO A71 A81]
  · isplitr; · iexact HE
    isplitl [HR2]; · iexact HR2
    isplitl [HR3]; · iexact HR3
    isplitl [HO]; · iexact HO
    isplitl [A71]; · iexact A71
    iexact A81
  iintro %w8 %hw8 %z8_w ⟨HO, A71, HV2, A81, HV3, HZ2, HZ3⟩
  try dsimp only
  ihave A71 := (Entails.of_eq (show Acc c (k0_off7 c 1#32) sz2 fullShare (fwd m 2 c) = Acc c (k0_off5 c 2#32) sz2 fullShare (fwd m 2 c) by rw [off7_1])) $$ A71
  rw [run_bind]
  iapply (part9 m K c w8 hw8 _ _ _ _) $$ [A81 A71 HL4 HS4 HL5 HS5 HO]
  · isplitr; · iexact HE
    isplitl [A81]; · iexact A81
    isplitl [A71]; · iexact A71
    isplitl [HL4]; · iexact HL4
    isplitl [HS4]; · iexact HS4
    isplitl [HL5]; · iexact HL5
    isplitl [HS5]; · iexact HS5
    iexact HO
  iintro ⟨HS4, HS5, HO⟩
  try dsimp only
  rw [run_bind]
  iapply (part10 m K c _ _ _) $$ [HR4 HR5 HO A72]
  · isplitr; · iexact HE
    isplitl [HR4]; · iexact HR4
    isplitl [HR5]; · iexact HR5
    isplitl [HO]; · iexact HO
    iexact A72
  iintro %w10 %hw10 %z10_w ⟨HO, A72, HV4, HV5, HZ4, HZ5⟩
  try dsimp only
  rw [run_bind]
  iapply (part11 m K c w10 hw10 _ _ _ _ _) $$ [A72 A82 HV5 HL6 HS6 HO]
  · isplitr; · iexact HE
    isplitl [A72]; · iexact A72
    isplitl [A82]; · iexact A82
    isplitl [HV5]; · iexact HV5
    isplitl [HL6]; · iexact HL6
    isplitl [HS6]; · iexact HS6
    iexact HO
  iintro %z11_w %z11_w1 %z11_w2 %z11_w3 %z11_w4 ⟨A82, HV5, HS6, HO⟩
  try dsimp only
  rw [run_bind]
  iapply (part12 m K c _ _ _ _ _) $$ [HR6 A82 HL7 HS7 HR7 HO]
  · isplitr; · iexact HE
    isplitl [HR6]; · iexact HR6
    isplitl [A82]; · iexact A82
    isplitl [HL7]; · iexact HL7
    isplitl [HS7]; · iexact HS7
    isplitl [HR7]; · iexact HR7
    iexact HO
  iintro ⟨HE0, HX6, HZ6, HS7, HE1, HX7, HZ7, A82, HO⟩
  try dsimp only
  ihave A82 := (Entails.of_eq (show Acc c (k0_off12 c) sz1 fullShare (fin m c) = Acc c (k0_off13 c) sz1 fullShare (fin m c) by rw [off13_12])) $$ A82
  rw [run_bind]
  iapply (part13 m K c _ _ _ _ _) $$ [A82 HX7 HL8 HS8 HR8 HX6 HL9 HS9 HR9 HO]
  · isplitr; · iexact HE
    isplitl [A82]; · iexact A82
    isplitl [HX7]; · iexact HX7
    isplitl [HL8]; · iexact HL8
    isplitl [HS8]; · iexact HS8
    isplitl [HR8]; · iexact HR8
    isplitl [HX6]; · iexact HX6
    isplitl [HL9]; · iexact HL9
    isplitl [HS9]; · iexact HS9
    isplitl [HR9]; · iexact HR9
    iexact HO
  iintro ⟨HS8, HE2, HZ8, HBl, HS9, HE3, HZ9, HCl, HCrl, A82, HO⟩
  try dsimp only
  rw [run_bind]
  iapply (part14 m K c Y _ _ _ _) $$ [A82 HQ1 HL10 HS10 HL11 HS11 HO]
  · isplitr; · iexact HE
    isplitl [A82]; · iexact A82
    isplitl [HQ1]; · iexact HQ1
    isplitl [HL10]; · iexact HL10
    isplitl [HS10]; · iexact HS10
    isplitl [HL11]; · iexact HL11
    isplitl [HS11]; · iexact HS11
    iexact HO
  iintro %z14_w %z14_w1 %z14_w2 ⟨HQ1, HS10, HS11, HO⟩
  try dsimp only
  rw [run_bind]
  iapply (part15 m K c _ _ _ _) $$ [HR10 HR11 HL12 HS12 HO]
  · isplitr; · iexact HE
    isplitl [HR10]; · iexact HR10
    isplitl [HR11]; · iexact HR11
    isplitl [HL12]; · iexact HL12
    isplitl [HS12]; · iexact HS12
    iexact HO
  iintro ⟨HV10, HV11, HZ10, HZ11, HS12, HO⟩
  try dsimp only
  rw [run_bind]
  iapply (part16 m K c Y _ _ _ _) $$ [HV10 HV11 HL13 HS13 HQ190 HQ200 HO]
  · isplitr; · iexact HE
    isplitl [HV10]; · iexact HV10
    isplitl [HV11]; · iexact HV11
    isplitl [HL13]; · iexact HL13
    isplitl [HS13]; · iexact HS13
    isplitl [HQ190]; · iexact HQ190
    isplitl [HQ200]; · iexact HQ200
    iexact HO
  iintro %z16_w %z16_w1 ⟨HV10, HV11, HS13, HQ190, HQ200, HO⟩
  try dsimp only
  rw [run_bind]
  iapply (part17 m K c _ _) $$ [HR12 HR13 HL14 HS14 HO]
  · isplitr; · iexact HE
    isplitl [HR12]; · iexact HR12
    isplitl [HR13]; · iexact HR13
    isplitl [HL14]; · iexact HL14
    isplitl [HS14]; · iexact HS14
    iexact HO
  iintro ⟨HV12, HV13, HZ12, HZ13, HS14, HO⟩
  try dsimp only
  rw [run_bind]
  iapply (part18 m K c Y _ _ _ _) $$ [HV12 HV13 HL15 HS15 HQ191 HQ201 HO]
  · isplitr; · iexact HE
    isplitl [HV12]; · iexact HV12
    isplitl [HV13]; · iexact HV13
    isplitl [HL15]; · iexact HL15
    isplitl [HS15]; · iexact HS15
    isplitl [HQ191]; · iexact HQ191
    isplitl [HQ201]; · iexact HQ201
    iexact HO
  iintro %z18_w %z18_w1 ⟨HV12, HV13, HS15, HQ191, HQ201, HO⟩
  try dsimp only
  rw [run_bind]
  iapply (part19 m K c Y _ _ _) $$ [HR14 HR15 HQ192 HQ202 HO]
  · isplitr; · iexact HE
    isplitl [HR14]; · iexact HR14
    isplitl [HR15]; · iexact HR15
    isplitl [HQ192]; · iexact HQ192
    isplitl [HQ202]; · iexact HQ202
    iexact HO
  iintro ⟨HV14, HV15, HZ14, HZ15, HQ192, HQ202, HO⟩
  try dsimp only
  rw [run_bind]
  iapply (part20 m K c ) $$ [HS0 HS1 HS2 HS3 HS4 HO]
  · isplitr; · iexact HE
    isplitl [HS0]; · iexact HS0
    isplitl [HS1]; · iexact HS1
    isplitl [HS2]; · iexact HS2
    isplitl [HS3]; · iexact HS3
    isplitl [HS4]; · iexact HS4
    iexact HO
  iintro ⟨HU0, HY0, HU1, HY1, HU2, HY2, HU3, HY3, HU4, HY4, HO⟩
  try dsimp only
  rw [run_bind]
  iapply (part21 m K c ) $$ [HS5 HS6 HS7 HS8 HS9 HS10 HO]
  · isplitr; · iexact HE
    isplitl [HS5]; · iexact HS5
    isplitl [HS6]; · iexact HS6
    isplitl [HS7]; · iexact HS7
    isplitl [HS8]; · iexact HS8
    isplitl [HS9]; · iexact HS9
    isplitl [HS10]; · iexact HS10
    iexact HO
  iintro ⟨HU5, HY5, HY6, HY7, HU8, HY8, HU9, HY9, HU10, HY10, HO⟩
  try dsimp only
  rw [run_bind]
  iapply (part22 m K c ) $$ [HS11 HS12 HS13 HS14 HO]
  · isplitr; · iexact HE
    isplitl [HS11]; · iexact HS11
    isplitl [HS12]; · iexact HS12
    isplitl [HS13]; · iexact HS13
    isplitl [HS14]; · iexact HS14
    iexact HO
  iintro ⟨HU11, HY11, HU12, HY12, HU13, HY13, HU14, HY14, HO⟩
  try dsimp only
  simp only [semSignalWord, semWaitWord, Prog.lift, Prog.bind_op, Prog.bind_ret, Prog.pure_eq_ret]
  iapply (done_step (dst := slot1 gM) m K c 15 rfl (rfl) _) $$ [HS15 HO]
  · isplitr; · iexact HE
    isplitl [HS15]; · iexact HS15
    iexact HO
  iintro ⟨HV15x, HY15, HO⟩
  ihave HU15 := (Entails.of_eq (show sendPay m 15 c = Held (slot1 gM) c fullShare.left (v11 m (cw (cw c))) from rfl)) $$ HV15x
  iapply (signal_end m K c _ 0 20 (dev21_eq c) (by decide) rfl rfl rfl _ rfl) $$ [HO HN0]
  · isplitr; · iexact HE
    isplitl [HO]; · iexact HO
    iexact HN0
  iintro HO
  iapply (signal_end m K c _ 1 21 (dev22_eq c) (by decide) rfl rfl rfl _ rfl) $$ [HO HN1]
  · isplitr; · iexact HE
    isplitl [HO]; · iexact HO
    iexact HN1
  iintro HO
  iapply (signal_end m K c _ 2 22 (dev23_eq c) (by decide) rfl rfl rfl _ rfl) $$ [HO HN2]
  · isplitr; · iexact HE
    isplitl [HO]; · iexact HO
    iexact HN2
  iintro HO
  iapply (signal_end m K c _ 3 23 (dev24_eq c) (by decide) rfl rfl rfl _ rfl) $$ [HO HN3]
  · isplitr; · iexact HE
    isplitl [HO]; · iexact HO
    iexact HN3
  iintro HO
  iapply (meet_step m K c 24 1 csem_1 (by decide) _ rfl) $$ [HO HM1]
  · isplitr; · iexact HE
    isplitl [HO]; · iexact HO
    iexact HM1
  iintro ⟨HO, HZe, -⟩
  iapply (run_ret c _)
  ihave HV0 := (Held_free (slot0 aM) c (vF m 0 (ccw c))) $$ HV0
  ihave HV1 := (Held_free (slot0 bM) c (vB m 0 (cw c))) $$ HV1
  ihave HV2 := (Held_free (slot1 aM) c (vF m 1 (ccw c))) $$ HV2
  ihave HV3 := (Held_free (slot1 bM) c (vB m 1 (cw c))) $$ HV3
  ihave HV4 := (Held_free (slot2 aM) c (vF m 2 (ccw c))) $$ HV4
  ihave HV5 := (Held_free (slot2 bM) c (vB m 2 (cw c))) $$ HV5
  ihave HFa := (slots_join aM c) $$ [HV0 HV2 HV4]
  · isplitl [HV0]; · iexact HV0
    isplitl [HV2]; · iexact HV2
    iexact HV4
  ihave HFb := (slots_join bM c) $$ [HV1 HV3 HV5]
  · isplitl [HV1]; · iexact HV1
    isplitl [HV3]; · iexact HV3
    iexact HV5
  ihave HFe0 := (Held_free e0M c (v6 m (p1 c))) $$ HE0
  ihave HFe1 := (Held_free e1M c (v7 m (p2 c))) $$ HE1
  ihave HFe2 := (Held_free e2M c (v8 m (p2 c))) $$ HE2
  ihave HFe3 := (Held_free e3M c (v9 m (p1 c))) $$ HE3
  ihave HV10 := (Held_join (slot0 fM) c (v10 m (ccw c)) (v10 m (ccw c))) $$ [HU12 HV10]
  · isplitl [HU12]; · iexact HU12
    iexact HV10
  ihave HV11 := (Held_join (slot0 gM) c (v11 m (cw c)) (v11 m (cw c))) $$ [HU13 HV11]
  · isplitl [HU13]; · iexact HU13
    iexact HV11
  ihave HV12 := (Held_join (slot1 fM) c (v10 m (ccw (ccw c))) (v10 m (ccw (ccw c)))) $$ [HU14 HV12]
  · isplitl [HU14]; · iexact HU14
    iexact HV12
  ihave HV13 := (Held_join (slot1 gM) c (v11 m (cw (cw c))) (v11 m (cw (cw c)))) $$ [HU15 HV13]
  · isplitl [HU15]; · iexact HU15
    iexact HV13
  ihave HV14 := (Held_free (slot2 fM) c (v10 m (ccw (ccw (ccw c))))) $$ HV14
  ihave HV15 := (Held_free (slot2 gM) c (v11 m (cw (cw (cw c))))) $$ HV15
  ihave HFf := (slots_join fM c) $$ [HV10 HV12 HV14]
  · isplitl [HV10]; · iexact HV10
    isplitl [HV12]; · iexact HV12
    iexact HV14
  ihave HFg := (slots_join gM c) $$ [HV11 HV13 HV15]
  · isplitl [HV11]; · iexact HV11
    isplitl [HV13]; · iexact HV13
    iexact HV15
  ihave HA := (acc_back m c) $$ [HU0 HU1 HU2 HU3 HU4 HU5 HU8 HBl HU9 HCrl HCl HU10 HU11]
  · isplitl [HU0]; · iexact HU0
    isplitl [HU1]; · iexact HU1
    isplitl [HU2]; · iexact HU2
    isplitl [HU3]; · iexact HU3
    isplitl [HU4]; · iexact HU4
    isplitl [HU5]; · iexact HU5
    isplitl [HU8]; · iexact HU8
    isplitl [HBl]; · iexact HBl
    isplitl [HU9]; · iexact HU9
    isplitl [HCrl]; · iexact HCrl
    isplitl [HCl]; · iexact HCl
    isplitl [HU10]; · iexact HU10
    iexact HU11
  ihave HQ := (out_back m c) $$ [HQ190 HQ191 HQ192 HQ200 HQ201 HQ202 HQ1]
  · isplitl [HQ190]; · iexact HQ190
    isplitl [HQ191]; · iexact HQ191
    isplitl [HQ192]; · iexact HQ192
    isplitl [HQ200]; · iexact HQ200
    isplitl [HQ201]; · iexact HQ201
    isplitl [HQ202]; · iexact HQ202
    iexact HQ1
  iapply Hk
  isplitl [HO]; · iexact HO
  isplitl [HD]; · iexact HD
  isplitl [HW]; · iexact HW
  isplitl [HA]; · iexact HA
  isplitl [HQ]; · iexact HQ
  isplitl [HFa]; · iexact HFa
  isplitl [HFb]; · iexact HFb
  isplitl [HFe0]; · iexact HFe0
  isplitl [HFe1]; · iexact HFe1
  isplitl [HFe2]; · iexact HFe2
  isplitl [HFe3]; · iexact HFe3
  isplitl [HFf]; · iexact HFf
  isplitl [HFg]; · iexact HFg
  isplitl [HZ]; · iexact HZ
  isplitl [HZe]; · iexact HZe
  isplitl [HY0]; · iexact HY0
  isplitl [HY1]; · iexact HY1
  isplitl [HY2]; · iexact HY2
  isplitl [HY3]; · iexact HY3
  isplitl [HY4]; · iexact HY4
  isplitl [HY5]; · iexact HY5
  isplitl [HY6]; · iexact HY6
  isplitl [HY7]; · iexact HY7
  isplitl [HY8]; · iexact HY8
  isplitl [HY9]; · iexact HY9
  isplitl [HY10]; · iexact HY10
  isplitl [HY11]; · iexact HY11
  isplitl [HY12]; · iexact HY12
  isplitl [HY13]; · iexact HY13
  isplitl [HY14]; · iexact HY14
  isplitl [HY15]; · iexact HY15
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  isplitl [HZ6]; · iexact HZ6
  isplitl [HZ7]; · iexact HZ7
  isplitl [HZ8]; · iexact HZ8
  isplitl [HZ9]; · iexact HZ9
  isplitl [HZ10]; · iexact HZ10
  isplitl [HZ11]; · iexact HZ11
  isplitl [HZ12]; · iexact HZ12
  isplitl [HZ13]; · iexact HZ13
  isplitl [HZ14]; · iexact HZ14
  iexact HZ15

end Cert.KernelIdeal.Ring

end
-- ==== Proof.Ring.Ghost.lean ====
/- What the launch deals the devices: the cells opened, the tokens handed to the devices that pay with them, and the
   credits of what the devices owe one another. -/
module

public import proofs.«01_k».proof.Proof.Ring.Body

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## The 34 cells by kind -/

def kinds : Fin 2 ⊕ Fin 16 ⊕ Fin 16 → Fin 34 := Sum.elim (![0, 1]) (Sum.elim sIdx rIdx)
theorem kinds_bijective : Function.Bijective kinds := by decide
def kindsEquiv : Fin 2 ⊕ Fin 16 ⊕ Fin 16 ≃ Fin 34 := Equiv.ofBijective kinds kinds_bijective

/-- Over all cells: the two barriers, the send cells, the receive cells. -/
theorem by_kind (Φ : Fin 34 → sProp 𝕄) :
    bigSep Finset.univ Φ = iprop((Φ 0 ∗ Φ 1) ∗ (bigSep Finset.univ fun k => Φ (sIdx k)) ∗ bigSep Finset.univ fun k => Φ (rIdx k)) := by
  rw [bigSep_univ_equiv kindsEquiv Φ, bigSep_univ_sum, bigSep_univ_sum, bigSep_fin_two]
  rfl

theorem kcell_injective : Function.Injective (kcell : Dev nD × Fin 34 → GSem nD τ sig) := by
  rintro ⟨c, j⟩ ⟨c', j'⟩ h
  have h1 : c = c' := congrArg (fun g : GSem nD τ sig => g.1.1) h
  have h2 : csem j = csem j' := congrArg Prod.snd h
  rw [h1, csem_injective h2]

def ringCells : Finset (GSem nD τ sig) := Finset.univ.map ⟨kcell, kcell_injective⟩

/-- Four tokens to every cell, one per direction. -/
def tokAt (x : (Dev nD × Fin 34) × Fin 4) : GSem nD τ sig × ℕ × Fin 4 := (kcell x.1, 0, x.2)
theorem tokAt_injective : Function.Injective tokAt := by
  rintro ⟨x, d⟩ ⟨y, e⟩ h
  have h1 : kcell x = kcell y := congrArg Prod.fst h
  have h2 : d = e := congrArg (fun t : GSem nD τ sig × ℕ × Fin 4 => t.2.2) h
  rw [kcell_injective h1, h2]
def ringToks : Finset (GSem nD τ sig × ℕ × Fin 4) := Finset.univ.map ⟨tokAt, tokAt_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  bigSep Finset.univ fun j : Fin 34 => bigSep Finset.univ fun d : Fin 4 => dutyTok ER (kcell (c, j)) 0 d

/-- What the launch deals device `c`. -/
def Deal (c : Dev nD) : sProp 𝕄 :=
  iprop((bigSep Finset.univ fun j : Fin 34 => roundState ER (sched m) (kcell (c, j)) 0)
    ∗ (bigSep Finset.univ fun j : Fin 34 => atPos ER (kcell (c, j)) 0 ∅ 0) ∗ (bigSep Finset.univ fun j : Fin 34 => reached ER (kcell (c, j)) 0) ∗ toks c)

theorem fund_ring : BI.own (ER (initOf ringCells ringToks)) ⊢ (|==> bigSep Finset.univ (Deal m) : sProp 𝕄) := by
  have hX (Φ : GSem nD τ sig → sProp 𝕄) : bigSep ringCells Φ = bigSep Finset.univ fun c : Dev nD => bigSep Finset.univ fun j : Fin 34 => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold Deal; simp only [bigSep_sep']
  isplitl [Hst']; · iexact Hst'
  isplitl [Hat']; · iexact Hat'
  isplitl [Hr']; · iexact Hr'
  iexact Htok'

/-! ## The semaphores -/

/-- The kernel's own semaphores: all but the barrier. -/
abbrev osem : Fin 33 → SemLoc sig := fun j => csem j.succ

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg (0 : Fin 2)] (by decide) (by decide)]; rfl

def ownIdx : Option (Fin 33) → Fin 34 := fun o => o.elim 0 Fin.succ
theorem ownIdx_bijective : Function.Bijective ownIdx := by decide

/-- The barrier and the kernel's own semaphores are the 34 cells. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun j : Fin 34 => semVal (kcell (c, j)) 0 : sProp 𝕄) := by
  rw [unscopedSems0_eq, bigSep_univ_equiv ((Equiv.sumComm _ _).trans ((Equiv.optionEquivSumPUnit (Fin 33)).symm.trans (Equiv.ofBijective ownIdx ownIdx_bijective)))
    (fun j : Fin 34 => (semVal (kcell (c, j)) 0 : sProp 𝕄)), bigSep_univ_sum]
  unfold Pipeline.ownSems0
  congr 1
  exact (bigSep_univ_of_subsingleton PUnit.unit.{1} (Φ := fun _ : PUnit.{1} => (semVal (barCell c) 0 : sProp 𝕄))).symm

/-! ## The cells opened, the tokens handed round -/

/-- The tokens device `c` pays with. -/
def payToks (c : Dev nD) : sProp 𝕄 :=
  iprop((bigSep Finset.univ fun d => Tok 0 d c) ∗ (bigSep Finset.univ fun d => Tok 1 d c)
    ∗ (bigSep Finset.univ fun k => dutyTok ER (sendCell c k) 0 0) ∗ bigSep Finset.univ fun k => dutyTok ER (recvCell (peer (dir k) c) k) 0 0)

/-- A family over devices and an index, moved round by an equivalence per index. -/
theorem moved {I : Type} [Fintype I] (e : I → Dev nD ≃ Dev nD) (Φ : Dev nD → I → sProp 𝕄) :
    (bigSep Finset.univ fun c : Dev nD => bigSep Finset.univ fun i => Φ c i) = bigSep Finset.univ fun c : Dev nD => bigSep Finset.univ fun i => Φ (e i c) i := by
  rw [bigSep_univ_comm, bigSep_univ_comm (fun c i => Φ (e i c) i)]
  exact bigSep_congr fun i _ => bigSep_univ_equiv (e i) fun c => Φ c i

theorem own_toks (c : Dev nD) : (toks c : sProp 𝕄)
    ⊢ iprop((bigSep Finset.univ fun d : Fin 4 => dutyTok ER (barCell c) 0 d) ∗ (bigSep Finset.univ fun d : Fin 4 => dutyTok ER (endCell c) 0 d)
      ∗ (bigSep Finset.univ fun k => dutyTok ER (sendCell c k) 0 0) ∗ bigSep Finset.univ fun k => dutyTok ER (recvCell c k) 0 0) := by
  unfold toks
  rw [by_kind]
  iintro ⟨⟨H0, H1⟩, Hs, Hr⟩
  isplitl [H0]; · iexact H0
  isplitl [H1]; · iexact H1
  isplitl [Hs]
  · iapply (show (bigSep Finset.univ fun k => bigSep Finset.univ fun d : Fin 4 => dutyTok ER (kcell (c, sIdx k)) 0 d : sProp 𝕄)
      ⊢ bigSep Finset.univ fun k => dutyTok ER (sendCell c k) 0 0 from bigSep_mono fun k _ => by
        rw [show sendCell c k = kcell (c, sIdx k) from by unfold kcell; rw [csem_s]]
        exact bigSep_elim (Finset.mem_univ (0 : Fin 4))) $$ Hs
  · iapply (show (bigSep Finset.univ fun k => bigSep Finset.univ fun d : Fin 4 => dutyTok ER (kcell (c, rIdx k)) 0 d : sProp 𝕄)
      ⊢ bigSep Finset.univ fun k => dutyTok ER (recvCell c k) 0 0 from bigSep_mono fun k _ => by
        rw [show recvCell c k = kcell (c, rIdx k) from by unfold kcell; rw [csem_r]]
        exact bigSep_elim (Finset.mem_univ (0 : Fin 4))) $$ Hr

theorem toks_round : (bigSep Finset.univ fun c : Dev nD => (toks c : sProp 𝕄)) ⊢ bigSep Finset.univ fun c : Dev nD => payToks c := by
  refine (bigSep_mono fun c _ => own_toks c).trans ?_
  unfold payToks
  rw [bigSep_sep', bigSep_sep', bigSep_sep', bigSep_sep', bigSep_sep', bigSep_sep',
    moved peerEquiv (fun c d => (dutyTok ER (barCell c) 0 d : sProp 𝕄)), moved peerEquiv (fun c d => (dutyTok ER (endCell c) 0 d : sProp 𝕄)),
    moved (fun k => peerEquiv (dir k)) (fun c k => (dutyTok ER (recvCell c k) 0 0 : sProp 𝕄))]
  exact BI.Entails.refl _

/-- What stays with device `c` of the cells. -/
def Posns (c : Dev nD) : sProp 𝕄 := bigSep Finset.univ fun j : Fin 34 => atPos ER (kcell (c, j)) 0 ∅ 0

def Cells (K : Dev nD × Fin 34 → ℕ) : sProp 𝕄 :=
  bigSep Finset.univ (fun cj : Dev nD × Fin 34 => iprop(cellInv ER (sched m) (K cj) (kcell cj) ∗ reached ER (kcell cj) 0))
instance Cells_persistent (K : Dev nD × Fin 34 → ℕ) : BI.Persistent (Cells m K) := by unfold Cells; infer_instance

def Deal' (c : Dev nD) : sProp 𝕄 := iprop(∃ K, Cells m K ∗ Posns c ∗ payToks c)

theorem open_cells (c : Dev nD) :
    iprop(Pipeline.ownSems0 (Ix := Unit) (Name := ℕ) (U := UU) (Lvl := ℕ) (Val := Elt F) (τ := τ) osem c ∗ unscopedSems0 c ∗ Deal m c)
      ⊢ |={Set.univ}=> iprop((bigSep Finset.univ fun j => iprop(∃ κ : ℕ, cellInv ER (sched m) κ (kcell (c, j))))
          ∗ Posns c ∗ (bigSep Finset.univ fun j : Fin 34 => reached ER (kcell (c, j)) 0) ∗ toks c) := by
  unfold Deal Posns
  iintro ⟨Hos, Hus, Hst, Hat, Hr, Htok⟩
  ihave Hv := (Entails.of_eq (sems0_eq (F := F) c)) $$ [Hos Hus]
  · isplitl [Hus] <;> iassumption
  imod (show iprop((bigSep Finset.univ fun j : Fin 34 => semVal (kcell (c, j)) 0) ∗ bigSep Finset.univ fun j : Fin 34 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem keep (K : Dev nD × Fin 34 → ℕ) (c : Dev nD) : (iprop(Cells m K ∗ Posns c ∗ payToks c) : sProp 𝕄) ⊢ Deal' m c := by
  unfold Deal'; iintro H; iexists K; iexact H

theorem share_cells :
    (bigSep Finset.univ fun c : Dev nD => iprop((bigSep Finset.univ fun j => iprop(∃ κ : ℕ, cellInv ER (sched m) κ (kcell (c, j))))
          ∗ Posns c ∗ (bigSep Finset.univ fun j : Fin 34 => reached ER (kcell (c, j)) 0) ∗ toks c) : sProp 𝕄)
      ⊢ bigSep Finset.univ (Deal' m) := by
  rw [bigSep_sep', bigSep_sep', bigSep_sep', ← bigSep_univ_prod (fun x : Dev nD × Fin 34 => iprop(∃ κ : ℕ, cellInv ER (sched m) κ (kcell x))),
    ← bigSep_univ_prod (fun x : Dev nD × Fin 34 => (reached ER (kcell x) 0 : sProp 𝕄))]
  iintro ⟨HI, Hat, HR, Htok⟩
  ihave HK := (BI.bigSep_exists_pi Finset.univ (fun (x : Dev nD × Fin 34) (κ : ℕ) => (cellInv ER (sched m) κ (kcell x) : sProp 𝕄))) $$ HI
  icases HK with ⟨%K, HI⟩
  ihave Hpay := (toks_round (F := F)) $$ Htok
  ihave HC := (show iprop((bigSep Finset.univ fun x : Dev nD × Fin 34 => (cellInv ER (sched m) (K x) (kcell x) : sProp 𝕄)) ∗ bigSep Finset.univ fun x : Dev nD × Fin 34 => reached ER (kcell x) 0)
      ⊢ Cells m K from Entails.of_eq (by unfold Cells; rw [bigSep_sep'])) $$ [HI HR]
  · isplitl [HI] <;> iassumption
  icases HC with #HC
  ihave HCs := (BI.bigSep_of_persistent (Finset.univ : Finset (Dev nD)) (Cells m K)) $$ HC
  ihave H := (Entails.of_eq (show iprop((bigSep Finset.univ fun _ : Dev nD => Cells m K) ∗ (bigSep Finset.univ fun c : Dev nD => Posns c) ∗ bigSep Finset.univ fun c : Dev nD => payToks c)
      = (bigSep Finset.univ fun c : Dev nD => iprop(Cells m K ∗ Posns c ∗ payToks c) : sProp 𝕄) from by rw [bigSep_sep', bigSep_sep'])) $$ [HCs Hat Hpay]
  · isplitl [HCs]; · iexact HCs
    isplitl [Hat] <;> iassumption
  iapply (show (bigSep Finset.univ fun c : Dev nD => iprop(Cells m K ∗ Posns c ∗ payToks c) : sProp 𝕄) ⊢ bigSep Finset.univ (Deal' m) from
    bigSep_mono fun c _ => keep m K c) $$ H

theorem glob : (bigSep Finset.univ fun c => iprop(Pipeline.ownSems0 (Ix := Unit) (Name := ℕ) (U := UU) (Lvl := ℕ) (Val := Elt F) (τ := τ) osem c ∗ unscopedSems0 c ∗ Deal m c) : sProp 𝕄)
    ⊢ |={Set.univ}=> bigSep Finset.univ (Deal' m) :=
  ((bigSep_mono fun c _ => open_cells m c).trans (bigSep_fupd _ _)).trans (BI.fupd_mono (share_cells m))

/-! ## The credits -/

abbrev O₀ (c : Dev nD) : CellTallies nD τ sig Unit := owed c 0

/-- What all devices together owe one cell: of each payment, one device's. -/
theorem owed_total (c : Dev nD) (s : SemLoc sig) :
    (∑ d : Dev nD, O₀ d ((c : Thread nD τ), s) ()) = ∑ i ∈ Finset.Ico 0 24, if owedSem i = s then owedAmt i else 0 := by
  have h1 (d : Dev nD) : O₀ d ((c : Thread nD τ), s) () = ∑ i ∈ Finset.Ico 0 24, if d = peer (back (owedDir i)) c then (if owedSem i = s then owedAmt i else 0) else 0 := by
    unfold O₀ owed
    rw [Finset.sum_apply, Finsupp.finsetSum_apply]
    refine Finset.sum_congr rfl fun i _ => ?_
    rw [tallyAt_apply]
    by_cases hd : d = peer (back (owedDir i)) c
    · rw [if_pos hd]
      have hc : peer (owedDir i) d = c := by rw [hd, peer_back']
      by_cases hs : owedSem i = s
      · rw [if_pos hs, if_pos ⟨by unfold owedCell; rw [hc, hs], rfl⟩]
      · rw [if_neg hs, if_neg fun h => hs (congrArg Prod.snd h.1).symm]
    · rw [if_neg hd, if_neg fun h => hd ?_]
      have : c = peer (owedDir i) d := congrArg (fun g : GSem nD τ sig => g.1.1) h.1
      rw [this, peer_back]
  rw [Finset.sum_congr rfl fun d _ => h1 d, Finset.sum_comm]
  refine Finset.sum_congr rfl fun i _ => ?_
  rw [Finset.sum_ite_eq' Finset.univ, if_pos (Finset.mem_univ _)]

theorem total_bar : (∑ i ∈ Finset.Ico 0 24, if owedSem i = .reg 0 then owedAmt i else 0) = 4 := by
  have h : ∀ i ∈ Finset.Ico 0 24, (if owedSem i = .reg 0 then owedAmt i else 0) = if i < 4 then 1 else 0 := fun i hi => by
    unfold owedSem owedAmt
    by_cases h4 : i < 4
    · rw [if_pos h4, if_pos h4, if_pos h4, if_pos rfl]
    · rw [if_neg h4, if_neg h4, if_neg h4]
      by_cases h20 : i < 20
      · rw [if_pos h20, if_neg (by simp)]
      · rw [if_neg h20, if_neg (by decide)]
  rw [Finset.sum_congr rfl h]; decide
theorem total_end : (∑ i ∈ Finset.Ico 0 24, if owedSem i = .reg 1 then owedAmt i else 0) = 4 := by
  have h : ∀ i ∈ Finset.Ico 0 24, (if owedSem i = .reg 1 then owedAmt i else 0) = if 20 ≤ i then 1 else 0 := fun i hi => by
    unfold owedSem owedAmt
    by_cases h4 : i < 4
    · rw [if_pos h4, if_neg (by decide), if_neg (by omega)]
    · rw [if_neg h4, if_neg h4]
      by_cases h20 : i < 20
      · rw [if_pos h20, if_neg (by simp), if_neg (by omega)]
      · rw [if_neg h20, if_neg h20, if_pos rfl, if_pos (by omega)]
  rw [Finset.sum_congr rfl h]; decide
theorem recvSem_injective : Function.Injective recvSem := by decide
theorem total_recv (k : Fin 16) : (∑ i ∈ Finset.Ico 0 24, if owedSem i = .dma (recvSem k) then owedAmt i else 0) = amt k := by
  have hk := k.isLt
  have hc : chan (4 + k.val) = k := Fin.ext (by show (4 + k.val - 4) % 16 = k.val; omega)
  have h4 : ¬ 4 + k.val < 4 := by omega
  have h20 : 4 + k.val < 20 := by omega
  rw [Finset.sum_eq_single (4 + k.val)]
  · unfold owedSem owedAmt
    rw [if_neg h4, if_neg h4, if_pos h20, if_pos h20, hc, if_pos rfl]
  · intro i hi hne
    unfold owedSem
    by_cases g4 : i < 4
    · rw [if_pos g4, if_neg (by simp)]
    · rw [if_neg g4]
      by_cases g20 : i < 20
      · rw [if_pos g20, if_neg]
        intro h
        have h1 : chan i = k := recvSem_injective (SemLoc.dma.inj h)
        have h2 : (i - 4) % 16 = k.val := congrArg Fin.val h1
        omega
      · rw [if_neg g20, if_neg (by simp)]
  · intro h; exact absurd (Finset.mem_Ico.mpr ⟨by omega, by omega⟩) h

theorem launch_at (c : Dev nD) (s : SemLoc sig) (n : ℕ) (h : (∑ i ∈ Finset.Ico 0 24, if owedSem i = s then owedAmt i else 0) = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, owed_total, h]

/-- What the launch credits device `c`: both barriers' four units, and every receive cell's copy. -/
theorem creds (c : Dev nD) : (Pipeline.launchCred O₀ c : sProp 𝕄)
    ⊢ iprop((cred (tallyAt (barCell c) () 4) ∗ cred (tallyAt (endCell c) () 4)) ∗ bigSep Finset.univ fun k => cred (tallyAt (recvCell c k) () (amt k))) := by
  unfold Pipeline.launchCred
  have h : (bigSep Finset.univ fun sm : SemLoc sig => cred (tallyOn ((c : Thread nD τ), sm) (launchCredit (Pipeline.owing O₀) 0 ((c : Thread nD τ), sm))) : sProp 𝕄)
      ⊢ bigSep Finset.univ fun j : Fin 34 => cred (tallyOn (kcell (c, j)) (launchCredit (Pipeline.owing O₀) 0 (kcell (c, j)))) := by
    have h0 := bigSep_subset (Finset.subset_univ (Finset.univ.map ⟨csem, csem_injective⟩))
      (Φ := fun sm : SemLoc sig => (cred (tallyOn ((c : Thread nD τ), sm) (launchCredit (Pipeline.owing O₀) 0 ((c : Thread nD τ), sm))) : sProp 𝕄))
    rw [bigSep_map] at h0
    exact h0
  iintro H0
  ihave H2 := h $$ H0
  ihave H1 := (Entails.of_eq (by_kind (F := F) fun j => cred (tallyOn (kcell (c, j)) (launchCredit (Pipeline.owing O₀) 0 (kcell (c, j)))))) $$ H2
  icases H1 with ⟨⟨H0, H1⟩, -, Hr⟩
  isplitl [H0 H1]
  · isplitl [H0]
    · ihave H := (Entails.of_eq (show (cred (tallyOn (kcell (c, 0)) (launchCredit (Pipeline.owing O₀) 0 (kcell (c, 0)))) : sProp 𝕄) = cred (tallyAt (barCell c) () 4) from congrArg cred (launch_at c (.reg 0) 4 total_bar))) $$ H0
      iexact H
    · ihave H := (Entails.of_eq (show (cred (tallyOn (kcell (c, 1)) (launchCredit (Pipeline.owing O₀) 0 (kcell (c, 1)))) : sProp 𝕄) = cred (tallyAt (endCell c) () 4) from congrArg cred (launch_at c (.reg 1) 4 total_end))) $$ H1
      iexact H
  · iapply (show (bigSep Finset.univ fun k => cred (tallyOn (kcell (c, rIdx k)) (launchCredit (Pipeline.owing O₀) 0 (kcell (c, rIdx k)))) : sProp 𝕄)
      ⊢ bigSep Finset.univ fun k => cred (tallyAt (recvCell c k) () (amt k)) from bigSep_mono fun k _ => by
        rw [show kcell (c, rIdx k) = recvCell c k from by unfold kcell; rw [csem_r], launch_at c _ _ (total_recv k)]
        exact BI.Entails.refl _) $$ Hr

end Cert.KernelIdeal.Ring

end
-- ==== Proof.Ring.Launch.lean ====
/- The launch: the body put into the pipeline's one point, and the run of the whole program. -/
module

public import proofs.«01_k».proof.Proof.Ring.Ghost
public import proofs.«01_k».proof.Proof.Gen.KernelIdeal.Points
public import Idealize.ShloMosaic.Lib.Pipeline.CollectiveSegs

@[expose] public section

set_option maxRecDepth 8000

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]
variable (m : (ℓ : Loc nD τ sig) → Buf (Elt F) ℓ) (ρ : Dev nD → PrngReg)

local notation "𝕄" => MT nD τ sig Unit (Elt F) ℕ UU ℕ

def s₀ : MemSt nD τ sig (Elt F) := ⟨m, fun _ => 0, ρ⟩

/-! ## What a device starts with -/

/-- Device `c`'s part of the protocol. -/
def Part (c : Dev nD) : sProp 𝕄 :=
  iprop((bigSep Finset.univ fun d => Tok 0 d c) ∗ (bigSep Finset.univ fun d => Tok 1 d c) ∗ ToMeet 0 c ∗ ToMeet 1 c
    ∗ (bigSep Finset.univ fun k => ToSend k c) ∗ bigSep Finset.univ fun k => ToRecv k c)

def start (c : Dev nD) : sProp 𝕄 := iprop(∃ K, Env m K ∗ Part c)

theorem part_intro (c : Dev nD) :
    iprop(Posns c ∗ payToks c ∗ (cred (tallyAt (barCell c) () 4) ∗ cred (tallyAt (endCell c) () 4)) ∗ bigSep Finset.univ fun k => cred (tallyAt (recvCell c k) () (amt k)))
      ⊢ (Part c : sProp 𝕄) := by
  unfold Posns payToks Part ToSend ToRecv ToMeet
  rw [by_kind]
  simp only [bigSep_sep', csem_s, csem_r]
  iintro ⟨⟨⟨P0, P1⟩, Ps, Pr⟩, ⟨T0, T1, Ts, Tr⟩, ⟨C0, C1⟩, Cr⟩
  isplitl [T0]; · iexact T0
  isplitl [T1]; · iexact T1
  isplitl [P0 C0]
  · isplitl [P0]; · iexact P0
    iexact C0
  isplitl [P1 C1]
  · isplitl [P1]; · iexact P1
    iexact C1
  isplitl [Ts Tr Ps]
  · isplitl [Ts]; · iexact Ts
    isplitl [Tr]; · iexact Tr
    iexact Ps
  · isplitl [Pr]; · iexact Pr
    iexact Cr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Deal' m c)
      ⊢ |={Set.univ}=> iprop(start m c ∗ emp) := by
  iintro ⟨-, Hlev, Hcr, -, HG⟩
  ihave Hc := (creds (F := F) c) $$ Hcr
  unfold Deal'
  icases HG with ⟨%K, HC, HP, HT⟩
  imodintro
  isplitl
  · unfold start
    iexists K
    isplitl [HC Hlev]
    · unfold Env Cells
      isplitl [HC]; · iexact HC
      iexact Hlev
    · iapply (part_intro (F := F) c)
      isplitl [HP]; · iexact HP
      isplitl [HT]; · iexact HT
      iexact Hc
  · iempintro

/-! ## The scratch buffers -/

/-- The accumulator and the landing buffers, at any contents. -/
def Scratch (c : Dev nD) : sProp 𝕄 :=
  iprop(Any c Finset.univ ∗ Free aM c ∗ Free bM c ∗ Free e0M c ∗ Free e1M c ∗ Free e2M c ∗ Free e3M c ∗ Free fM c ∗ Free gM c)

theorem scratch_eq (c : Dev nD) :
    (Pipeline.scopedRest (Ix := Unit) (Name := ℕ) (U := UU) (Lvl := ℕ) (Val := Elt F) spec0 c : sProp 𝕄) = Scratch c := by
  rw [scopedRest0_eq]
  unfold Scratch Any Free
  simp only [Memref.view_whole, View.set_whole]
  rfl

/-! ## The pipeline's data -/

/-- The 34 counters at zero. -/
def Zeros (c : Dev nD) : sProp 𝕄 := bigSep Finset.univ fun j : Fin 34 => semVal (kcell (c, j)) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyS m c
    | ⟨1, _⟩ => wS m c
    | ⟨2, _⟩ => res m c
  Φ t := match t with
    | ⟨0, _⟩ => iprop(start m c ∗ Scratch c)
    | ⟨_ + 1, _⟩ => iprop(Scratch c ∗ Zeros c)
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_buffer (c : Dev nD) (b : Ref sig .tc) (X : b.ty.Contents (Elt F)) :
    (owns (c : Thread nD τ) (Memref.whole b) fullShare X : sProp 𝕄) = iprop(∃ f, ⌜f = X⌝ ∗ ((c : Thread nD τ).loc b ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def Before (c : Dev nD) : sProp 𝕄 :=
  iprop(iprop(start m c ∗ Scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def After (c : Dev nD) : sProp 𝕄 :=
  iprop(iprop(Scratch c ∗ Zeros c) ∗ (dats m ρ 0 c).owesAt () t0_0.succ ∗ stg c cc0_stg0_0 (dyS m c) ∗ stg c cc0_stg1_0 (wS m c) ∗ stg c cc0_stg2_0 (res m c))

theorem bigSep_4 (Φ : Fin 4 → sProp 𝕄) : (bigSep Finset.univ Φ : sProp 𝕄) = iprop(Φ 0 ∗ Φ 1 ∗ Φ 2 ∗ Φ 3) :=
  bigSep_univ_eq_bigSepL [0, 1, 2, 3] (by decide) (by decide) Φ
theorem bigSep_16 (Φ : Fin 16 → sProp 𝕄) : (bigSep Finset.univ Φ : sProp 𝕄) = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem ready_intro (c : Dev nD) (X : S1024x1024.Idx → Elt F .bf16) (Y : S1024x1024.Idx → Elt F .f32) :
    iprop(Part c ∗ Owe c 0 ∗ Dy m c ∗ Wt m c ∗ AccAll c X ∗ OutAll c Y ∗ Free aM c ∗ Free bM c ∗ Free e0M c ∗ Free e1M c ∗ Free e2M c ∗ Free e3M c ∗ Free fM c ∗ Free gM c)
      ⊢ (Ready m c X Y : sProp 𝕄) := by
  unfold Part Ready
  rw [bigSep_4, bigSep_4, bigSep_16, bigSep_16]
  iintro ⟨⟨⟨A0, A1, A2, A3⟩, ⟨B0, B1, B2, B3⟩, M0, M1, ⟨S0, S1, S2, S3, S4, S5, S6, S7, S8, S9, S10, S11, S12, S13, S14, S15⟩, R0, R1, R2, R3, R4, R5, R6, R7, R8, R9, R10, R11, R12, R13, R14, R15⟩, HO, HD, HW, HA, HY, F0, F1, F2, F3, F4, F5, F6, F7⟩
  isplitl [HO]; · iexact HO
  isplitl [A0]; · iexact A0
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [M0]; · iexact M0
  isplitl [M1]; · iexact M1
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [HD]; · iexact HD
  isplitl [HW]; · iexact HW
  isplitl [HA]; · iexact HA
  isplitl [HY]; · iexact HY
  isplitl [F0]; · iexact F0
  isplitl [F1]; · iexact F1
  isplitl [F2]; · iexact F2
  isplitl [F3]; · iexact F3
  isplitl [F4]; · iexact F4
  isplitl [F5]; · iexact F5
  isplitl [F6]; · iexact F6
  iexact F7

theorem finished_elim (c : Dev nD) :
    (Finished m c : sProp 𝕄) ⊢ iprop(Owe c 24 ∗ Dy m c ∗ Wt m c ∗ OutAll c (res m c) ∗ Scratch c ∗ Zeros c) := by
  unfold Finished Scratch Zeros
  rw [by_kind, bigSep_16, bigSep_16]
  iintro ⟨HO, HD, HW, HA, HY, F0, F1, F2, F3, F4, F5, F6, F7, Z0, Z1, S0, S1, S2, S3, S4, S5, S6, S7, S8, S9, S10, S11, S12, S13, S14, S15, R0, R1, R2, R3, R4, R5, R6, R7, R8, R9, R10, R11, R12, R13, R14, R15⟩
  isplitl [HO]; · iexact HO
  isplitl [HD]; · iexact HD
  isplitl [HW]; · iexact HW
  isplitl [HY]; · iexact HY
  isplitl [HA F0 F1 F2 F3 F4 F5 F6 F7]
  · isplitl [HA]; · iexact HA
    isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  isplitl [Z0 Z1]
  · isplitl [Z0]; · iexact Z0
    iexact Z1
  isplitl [S0 S1 S2 S3 S4 S5 S6 S7 S8 S9 S10 S11 S12 S13 S14 S15]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    iexact S15
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15

set_option maxHeartbeats 1000000 in
theorem body_at (c : Dev nD) : (Before m ρ c : sProp 𝕄) ⊢ run c (cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scoped0) (fun _ => After m ρ c) := by
  unfold Before start
  iintro ⟨⟨⟨%K, #HE, HP⟩, HS⟩, Ho, ⟨%d0, %g0, %hg0, HD⟩, ⟨%d1, %g1, %hg1, HW⟩, ⟨%d2, %g2, %hg2, HY⟩⟩
  have h0 : g0 = dyS m c := by rw [hg0]; unfold Dat.before; rw [if_pos (fetch0_0 t0_0)]; rfl
  have h1 : g1 = wS m c := by rw [hg1]; unfold Dat.before; rw [if_pos (fetch0_1 t0_0)]; rfl
  subst h0 h1
  unfold Dat.owesAt Pipeline.owesWithin Scratch Any
  icases Ho with ⟨%W, %hW, HO⟩
  rw [show (dats m ρ 0 c).owed t0_0.castSucc = O₀ c from rfl]
  icases HS with ⟨⟨%X, HA⟩, F0, F1, F2, F3, F4, F5, F6, F7⟩
  iapply (body_run m K c X g2) $$ [HP HO HD HW HY HA F0 F1 F2 F3 F4 F5 F6 F7]
  · isplitr; · iexact HE
    iapply (ready_intro m c X g2)
    isplitl [HP]; · iexact HP
    isplitl [HO]; · unfold Owe; iexists W; iexact HO
    isplitl [HD]; · unfold Dy; iexact HD
    isplitl [HW]; · unfold Wt; iexact HW
    isplitl [HA]; · iexact HA
    isplitl [HY]; · iexact HY
    isplitl [F0]; · iexact F0
    isplitl [F1]; · iexact F1
    isplitl [F2]; · iexact F2
    isplitl [F3]; · iexact F3
    isplitl [F4]; · iexact F4
    isplitl [F5]; · iexact F5
    isplitl [F6]; · iexact F6
    iexact F7
  iintro HF
  ihave H := (finished_elim m c) $$ HF
  icases H with ⟨HO, HD, HW, HY, HS, HZ⟩
  unfold Owe
  icases HO with ⟨%W', HO⟩
  rw [owed_end]
  unfold After Dat.owesAt Pipeline.owesWithin
  rw [show (dats m ρ 0 c).owed t0_0.succ = 0 from rfl]
  isplitl [HS HZ]
  · isplitl [HS] <;> iassumption
  isplitl [HO]
  · iexists W'
    isplitr; · ipureintro; exact fun _ _ => Or.inl trivial
    iexact HO
  isplitl [HD]
  · iexists (dyS m c); isplitr; · (ipureintro; rfl)
    unfold Dy; iexact HD
  isplitl [HW]
  · iexists (wS m c); isplitr; · (ipureintro; rfl)
    unfold Wt; iexact HW
  iexists (res m c); isplitr; · (ipureintro; rfl)
  iexact HY

theorem body_obligation (c : Dev nD) : BodyObligation (dats (F := F) m ρ 0 c) (defs₀ (F := F)) 𝒱₀ () Set.univ := fun t => by
  rw [fin_N0 t]
  rw [bigSep_W0, bigSep_W0]
  simp only [owns_buffer]
  exact body_at m ρ c

/-! ## The run -/

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · refine mayWait c _ 0 fun i _ hi => ?_
      have h : semLv (.dma ((cfg0.win w).sem s)) = 0 := by fin_cases w <;> fin_cases s <;> decide
      rw [h]; unfold owedLv; split
      · exact Nat.one_pos
      · split <;> omega
    · show (levAts L lv : sProp 𝕄) ⊢ MayWait (c : Thread nD τ) _ () 0
      rw [MayWait_zero]; iintro -; iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ Scratch c) from rfl, show Pipeline.scopedRest cfg0.spec c = (Scratch c : sProp 𝕄) from scratch_eq c]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(Scratch c ∗ Zeros c) from rfl, show Pipeline.scopedRest cfg0.spec c = (Scratch c : sProp 𝕄) from scratch_eq c]
  iintro ⟨Hr, HZ⟩
  ihave H := (Entails.of_eq (show (Zeros c : sProp 𝕄) = iprop(unscopedSems0 c ∗ Pipeline.ownSems0 osem c) from (sems0_eq c).symm)) $$ HZ
  icases H with ⟨Hu, Ho⟩
  isplitl [Hu]; · iexact Hu
  isplitl [Ho]; · iexact Ho
  iexact Hr

def finalA (c : Dev nD) (w : Fin cfg0.W) : Buf (Elt F) ((cfg0.win w).arr.view.loc (c : Thread nD τ)) := (dats m ρ 0 c).arrAt w cfg0.N

def Final (r : PUnit × MemSt nD τ sig (Elt F)) : Prop :=
  ∀ c : Dev nD, ∀ w : Fin cfg0.W, r.2.mem ((cfg0.win w).arr.view.loc (c : Thread nD τ)) = finalA m ρ c w

/-- On the sixteen devices, for any float values, from any memory with zero counters: every execution ends, with each
    device's result array at the computed contents, the arguments as they were and every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal m) (G' := Deal' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_arg0 (c : Dev nD) : finalA m ρ c (0 : Fin 3) = m ((c : Thread nD τ).loc main_arg0) :=
  (dats (F := F) m ρ 0 c).arrAt_in (0 : Fin 3) rfl _
theorem final_arg1 (c : Dev nD) : finalA m ρ c (1 : Fin 3) = m ((c : Thread nD τ).loc main_arg1) :=
  (dats (F := F) m ρ 0 c).arrAt_in (1 : Fin 3) rfl _

end Cert.KernelIdeal.Ring

end
-- ==== Proof.Ring.Total.lean ====
/- What the kernel computes over the extended reals: on every device, at every place, the sum over the sixteen devices of
   the product of that device's two blocks. -/
module

public import proofs.«01_k».proof.Proof.Ring.Launch
public import Idealize.ShloMosaic.PureOps.Ideal.Laws
public import Idealize.ShloMosaic.Lib.ValueIdxCore
public import Idealize.ShloMosaic.Lib.Pipeline.ValueKit.Geometry

@[expose] public section

noncomputable section

namespace Cert.KernelIdeal.Ring

open Cert.KernelIdeal Cert.KernelIdeal.Gen
open Idealize.ShloMosaic Idealize.ShloMosaic.TcCoe
open Idealize.ShloMosaic.ValueIdx (contrEquiv1 contrEquiv1_symm_val)
open scoped BigOperators

/-! ## The sixteen devices, in the order in which one place's sum visits them -/

/-- The devices whose products one ring's sum at device `c` takes, stepping by `f`. -/
def ringOf (f : Dev nD → Dev nD) (c : Dev nD) : List (Dev nD) := [c, f c, f (f c), f (f (f c))]
/-- The four rings' devices, as the two pairings add them. -/
def visits (f : Dev nD → Dev nD) (c : Dev nD) : List (Dev nD) :=
  (ringOf f c ++ ringOf f (p1 c)) ++ (ringOf f (p2 c) ++ ringOf f (p1 (p2 c)))

/-- Every device is visited once, whichever way the ring turns and wherever the sum ends. -/
theorem visits_ccw : ∀ c : Dev nD, (visits ccw c).Perm (List.finRange 16) := by decide +kernel
theorem visits_cw : ∀ c : Dev nD, (visits cw c).Perm (List.finRange 16) := by decide +kernel

theorem sum_of_perm {l : List (Dev nD)} (h : l.Perm (List.finRange 16)) (g : Dev nD → EReal) : (l.map g).sum = ∑ x : Fin 16, g x := by
  rw [(h.map g).sum_eq, ← List.ofFn_eq_map, List.sum_ofFn]

theorem sum_pair (g : Dev nD → EReal) (f : Dev nD → Dev nD) (c : Dev nD) :
    ((visits f c).map g).sum
      = (((ringOf f c).map g).sum + ((ringOf f (p1 c)).map g).sum) + (((ringOf f (p2 c)).map g).sum + ((ringOf f (p1 (p2 c))).map g).sum) := by
  unfold visits; simp only [List.map_append, List.sum_append]

variable (m : (ℓ : Loc nD τ sig) → Buf (Elt Ideal) ℓ)

/-- The product of device `x`'s two blocks at a place, over the extended reals. -/
def term (i : S1024x1024.Idx) (x : Dev nD) : EReal := G m x i

theorem fwd_three (c : Dev nD) (i : S1024x1024.Idx) : fwd m 3 c i = ((ringOf ccw c).map (term m i)).sum := by
  show term m i c + (term m i _ + (term m i _ + term m i _)) = term m i c + (term m i _ + (term m i _ + (term m i _ + 0)))
  rw [add_zero]
theorem bwd_three (c : Dev nD) (i : S1024x1024.Idx) : bwd m 3 c i = ((ringOf cw c).map (term m i)).sum := by
  show term m i c + (term m i _ + (term m i _ + term m i _)) = term m i c + (term m i _ + (term m i _ + (term m i _ + 0)))
  rw [add_zero]

/-- The four rings' sum is the sum over all the devices, wherever it is taken. -/
theorem quad_total (c : Dev nD) (i : S1024x1024.Idx) : quadX m c i = ∑ x : Fin 16, term m i x := by
  show (ringX m c i + ringX m (p1 c) i : EReal) + (ringX m (p2 c) i + ringX m (p1 (p2 c)) i) = _
  unfold ringX
  by_cases h : (i 1).val < 512
  · simp only [if_pos h, fwd_three]
    exact (sum_pair (term m i) ccw c).symm.trans (sum_of_perm (visits_ccw c) _)
  · simp only [if_neg h, bwd_three]
    exact (sum_pair (term m i) cw c).symm.trans (sum_of_perm (visits_cw c) _)

theorem res_total (c : Dev nD) (i : S1024x1024.Idx) : res m c i = ∑ x : Fin 16, term m i x := quad_total m _ i

/-! ## One device's product -/

/-- Device `c`'s two arguments, as arrays of extended reals. -/
def argDy (c : Dev nD) : S1024x4096.Idx → EReal := m ((c : Thread nD τ).loc main_arg0)
def argW (c : Dev nD) : S1024x4096.Idx → EReal := m ((c : Thread nD τ).loc main_arg1)

/-- The staged operands are the arguments. -/
theorem dyS_apply (c : Dev nD) (r : Fin 1024) (k : Fin 4096) : dyS m c (ix2 r k) = argDy m c (ix2 r k) := by
  refine congrArg (argDy m c) (funext fun a => Fin.ext ?_)
  match a with
  | ⟨0, _⟩ => show 0 * _ + 1 * r.val = r.val; omega
  | ⟨1, _⟩ => show 0 * _ + 1 * k.val = k.val; omega
theorem wS_apply (c : Dev nD) (r : Fin 1024) (k : Fin 4096) : wS m c (ix2 r k) = argW m c (ix2 r k) := by
  refine congrArg (argW m c) (funext fun a => Fin.ext ?_)
  match a with
  | ⟨0, _⟩ => show 0 * _ + 1 * r.val = r.val; omega
  | ⟨1, _⟩ => show 0 * _ + 1 * k.val = k.val; omega

abbrev blockDot := dot_S256x4096_S1024x4096_S256x1024_1_1_0_0_n_n
theorem blockDot_rank : blockDot.contr.rank = 1 := rfl
theorem blockDot_size : blockDot.contr.size ⟨0, by rw [blockDot_rank]; exact Nat.one_pos⟩ = 4096 := rfl

/-- The product of 256 rows, at a place: the sum over the 4096 columns. -/
theorem pay1_apply (X : Vec Ideal S256x4096 .bf16) (Y : Vec Ideal S1024x4096 .bf16) (r : Fin 256) (n : Fin 1024) :
    k0_pay1 X Y (ix2 r n) = ∑ k : Fin 4096, (X (ix2 r k) : EReal) * Y (ix2 n k) := by
  unfold k0_pay1
  rw [shapeCast_id, shapeCast_id]
  refine (Ideal.matmul_constant_zero_apply (φ₁ := .bf16) (φ₂ := .bf16) blockDot none X Y (ix2 r n)).trans ?_
  rw [← Equiv.sum_comp (contrEquiv1 blockDot 4096 blockDot_rank blockDot_size).symm]
  refine Finset.sum_congr rfl fun k _ => ?_
  have hk := contrEquiv1_symm_val blockDot 4096 blockDot_rank blockDot_size k
  congr 1
  · refine congrArg X (funext fun a => Fin.ext ?_)
    match a with
    | ⟨0, _⟩ => rfl
    | ⟨1, _⟩ => exact hk
  · refine congrArg Y (funext fun a => Fin.ext ?_)
    match a with
    | ⟨0, _⟩ => rfl
    | ⟨1, _⟩ => exact hk

/-- Device `x`'s product at a place: the sum over its 4096 columns. -/
theorem term_apply (x : Dev nD) (r n : Fin 1024) :
    term m (ix2 r n) x = ∑ k : Fin 4096, argDy m x (ix2 r k) * argW m x (ix2 n k) := by
  have h : term m (ix2 r n) x = k0_pay1 (rows (r.val / 256) (dyS m x)) (wS m x) (ix2 (⟨r.val % 256, Nat.mod_lt _ (by decide)⟩ : Fin 256) n) := by
    refine congrArg (k0_pay1 (rows (r.val / 256) (dyS m x)) (wS m x)) (funext fun a => Fin.ext ?_)
    match a with
    | ⟨0, _⟩ => rfl
    | ⟨1, _⟩ => rfl
  rw [h, pay1_apply]
  refine Finset.sum_congr rfl fun k _ => ?_
  have e : rows (r.val / 256) (dyS m x) (ix2 (⟨r.val % 256, Nat.mod_lt _ (by decide)⟩ : Fin 256) k) = dyS m x (ix2 r k) := by
    refine congrArg (dyS m x) (funext fun a => Fin.ext ?_)
    match a with
    | ⟨0, _⟩ =>
      show (256 * (r.val / 256) + r.val % 256) % 1024 = r.val
      have := r.isLt
      omega
    | ⟨1, _⟩ => rfl
  rw [e, dyS_apply, wS_apply]

/-! ## The result array -/

theorem final_res {F : FTy → Type} [FloatOps F] (m : (ℓ : Loc nD τ sig) → Buf (Elt F) ℓ) (ρ : Dev nD → PrngReg) (c : Dev nD) :
    finalA m ρ c (2 : Fin 3) = res m c := by
  refine (dats m ρ 0 c).arrAt_eq_of_after_last (2 : Fin 3) (0 : Fin 1) ⟨flush0_2 (0 : Fin 1), fun t _ => fin_N0 t, fun a => by fin_cases a <;> exact ⟨rfl, rfl⟩⟩ _ fun j => ?_
  rfl

/-- On every device the kernel's result is the sum over the devices of their products. -/
theorem final_apply (ρ : Dev nD → PrngReg) (c : Dev nD) (r n : Fin 1024) :
    (finalA m ρ c (2 : Fin 3) : S1024x1024.Idx → EReal) (ix2 r n)
      = ∑ x : Fin 16, ∑ k : Fin 4096, argDy m x (ix2 r k) * argW m x (ix2 n k) := by
  rw [final_res]
  exact (res_total m c _).trans (Finset.sum_congr rfl fun x _ => term_apply m x r n)

end Cert.KernelIdeal.Ring

end
-- ==== Proof.Ring.Whole.lean ====
/- What the reference computes over the extended reals, and that the kernel's result on every device is it: the sum over
   65536 columns is the sum over sixteen blocks of 4096. -/
module

public import proofs.«01_k».proof.Proof.Ring.Total
public import proofs.«01_k».proof.Proof.Gen.ReferenceIdeal.Run
public import Idealize.ShloMosaic.Lib.Layout

@[expose] public section

noncomputable section

namespace Cert.ReferenceIdeal.Whole

open Cert.ReferenceIdeal Cert.ReferenceIdeal.Gen
open Idealize.ShloMosaic Idealize.ShloMosaic.TcCoe
open Idealize.ShloMosaic.ValueIdx (contrEquiv1 contrEquiv1_symm_val)
open scoped BigOperators

abbrev wholeDot := dot_S1024x65536_S65536x1024_S1024x1024_1_0_0_1_n_n
theorem wholeDot_rank : wholeDot.contr.rank = 1 := rfl
theorem wholeDot_size : wholeDot.contr.size ⟨0, by rw [wholeDot_rank]; exact Nat.one_pos⟩ = 65536 := rfl

/-- The reference's result from its two arguments. -/
def out (X Y : S1024x65536.Idx → EReal) : S1024x1024.Idx → EReal :=
  extf (F := Ideal) .f32 (truncf (F := Ideal) .bf16 (Host.dotGeneral (F := Ideal) (φ₁ := .bf16) (φ₂ := .bf16) wholeDot none X (transpose S65536x1024 [1, 0] Y transposes_S1024x65536_S65536x1024_1_0)) bitsLt_bf16_f32) bitsLt_bf16_f32

/-- The reference at a place: the sum over the 65536 columns. -/
theorem out_apply (X Y : S1024x65536.Idx → EReal) (r n : Fin 1024) :
    out X Y (ix2 r n) = ∑ k : Fin 65536, X (ix2 r k) * Y (ix2 n k) := by
  refine (Ideal.dotGeneral_apply (φ₁ := .bf16) (φ₂ := .bf16) wholeDot none HostSchedule.single X (transpose S65536x1024 [1, 0] Y transposes_S1024x65536_S65536x1024_1_0) (ix2 r n)).trans ?_
  rw [← Equiv.sum_comp (contrEquiv1 wholeDot 65536 wholeDot_rank wholeDot_size).symm]
  refine Finset.sum_congr rfl fun k _ => ?_
  have hk := contrEquiv1_symm_val wholeDot 65536 wholeDot_rank wholeDot_size k
  congr 1
  · refine congrArg X (funext fun a => Fin.ext ?_)
    match a with
    | ⟨0, _⟩ => rfl
    | ⟨1, _⟩ => exact hk
  · refine congrArg Y (funext fun a => Fin.ext ?_)
    match a with
    | ⟨0, _⟩ => rfl
    | ⟨1, _⟩ => exact hk

/-- Column `k` of block `c`. -/
def col (c : Fin 16) (k : Fin 4096) : Fin 65536 := ⟨c.val * 4096 + k.val, by have := c.isLt; have := k.isLt; omega⟩

/-- A sum over the columns is the sum over the blocks of the sums over each block's columns. -/
theorem sum_blocks (g : Fin 65536 → EReal) : ∑ k : Fin 65536, g k = ∑ c : Fin 16, ∑ k : Fin 4096, g (col c k) := by
  rw [← Fintype.sum_prod_type' fun (c : Fin 16) (k : Fin 4096) => g (col c k)]
  refine (Equiv.sum_comp (finProdFinEquiv (m := 16) (n := 4096)) g).symm.trans (Finset.sum_congr rfl fun x _ => congrArg g (Fin.ext ?_))
  show x.2.val + 4096 * x.1.val = x.1.val * 4096 + x.2.val
  omega

/-- Block `c` of a whole array, at a place. -/
theorem block_at (X : S1024x65536.Idx → EReal) (c : Fin 16) (r : Fin 1024) (k : Fin 4096) :
    Layout.block ⟨2, ![1024, 4096]⟩ ⟨2, ![1024, 65536]⟩ 1 16 c X (by decide) (ix2 r k) = X (ix2 r (col c k)) := by
  refine congrArg X (funext fun a => Fin.ext ?_)
  match a with
  | ⟨0, _⟩ => rfl
  | ⟨1, _⟩ => rfl

open Cert.KernelIdeal.Ring in
/-- The kernel's result on every device is the reference's. -/
theorem kernel_eq (m : (ℓ : Loc Cert.KernelIdeal.nD Cert.KernelIdeal.τ Cert.KernelIdeal.sig) → Buf (Elt Ideal) ℓ) (ρ : Dev Cert.KernelIdeal.nD → PrngReg)
    (X Y : S1024x65536.Idx → EReal)
    (hX : ∀ c : Dev Cert.KernelIdeal.nD, argDy m c = Layout.block ⟨2, ![1024, 4096]⟩ ⟨2, ![1024, 65536]⟩ 1 16 c X (by decide))
    (hY : ∀ c : Dev Cert.KernelIdeal.nD, argW m c = Layout.block ⟨2, ![1024, 4096]⟩ ⟨2, ![1024, 65536]⟩ 1 16 c Y (by decide))
    (c : Dev Cert.KernelIdeal.nD) : finalA m ρ c (2 : Fin 3) = out X Y := by
  funext i
  obtain ⟨r, n, rfl⟩ : ∃ r n : Fin 1024, i = ix2 r n := ⟨i 0, i 1, funext fun a => by match a with | ⟨0, _⟩ => rfl | ⟨1, _⟩ => rfl⟩
  have h : (∑ x : Fin 16, ∑ k : Fin 4096, argDy m x (ix2 r k) * argW m x (ix2 n k)) = out X Y (ix2 r n) := by
    rw [out_apply, sum_blocks]
    refine Finset.sum_congr rfl fun x _ => Finset.sum_congr rfl fun k _ => ?_
    rw [hX, hY, block_at, block_at]
  exact (final_apply m ρ c r n).trans h

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Whole
public import Idealize.ShloMosaic.Adequacy
public import Idealize.ShloMosaic.Init

@[expose] public section

set_option maxRecDepth 100000

noncomputable section

namespace Cert.Proof

open Idealize.ShloMosaic Idealize.SL.Sem Cert.Kernel

/-- What every execution of the kernel leaves, for any float values: the result each device's data says, the arguments
    as they were, every semaphore counter at zero. -/
theorem kernel_run {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_v1) = Cert.KernelIdeal.Ring.finalA m g c (2 : Fin 3)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨h.1 c (2 : Fin 3), (h.1 c (0 : Fin 3)).trans (Cert.KernelIdeal.Ring.final_arg0 m g c), (h.1 c (1 : Fin 3)).trans (Cert.KernelIdeal.Ring.final_arg1 m g c)⟩, h.2⟩)
    (Cert.KernelIdeal.Ring.run_main m g)

theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (kernel_run m g)

theorem frame_ideal : Cert.quiescent_KernelIdeal (hKernelIdeal := Cert.KernelIdeal.Gen.facts) := fun m g _ => frame_any (F := Ideal) m g

/-! The two programs have the same text. -/

theorem same_body {F : FTy → Type} [FloatOps F] : Cert.Kernel.cc0_body (F := F) = Cert.KernelIdeal.cc0_body (F := F) := rfl
theorem same_table {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    show Cert.Kernel.cc0_body (F := F) _ _ _ _ _ _ _ _ _ _ _ _ _ _ _ _ _ _ _ _ _ _ _ _ _ _ _ _ _ _ _ _ _ _ _ = _
    rw [same_body]
theorem same_defs {F : FTy → Type} [FloatOps F] : Cert.Kernel.defs (F := F) = Cert.KernelIdeal.defs (F := F) := by
  unfold Cert.Kernel.defs Cert.KernelIdeal.defs; rw [same_table]; rfl

theorem frame_kernel : Cert.quiescent_Kernel (hKernel := Cert.Kernel.Gen.facts) := fun m g _ => by
  rw [same_defs]
  exact frame_any (F := Bits) m g

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same array, the reference's sum over all 65536 columns. -/
theorem value : Cert.algebraic_KernelIdeal_ReferenceIdeal (hKernelIdeal := Cert.KernelIdeal.Gen.facts) (hReferenceIdeal := Cert.ReferenceIdeal.Gen.facts) :=
  fun m g m' g' _ h =>
    ⟨Cert.ReferenceIdeal.Whole.out
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono
        (fun _ k c => ⟨(k.1 c).1.trans (Cert.ReferenceIdeal.Whole.kernel_eq m g _ _ (fun c => (h c).1) (fun c => (h c).2) c), (k.1 c).2⟩)
        (kernel_run (F := Ideal) m g),
      (θ_run Cert.ReferenceIdeal.defs _ _).mono (fun _ k => k 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
